-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S4x512x512 : Shape := ⟨3, ![4, 512, 512]⟩
abbrev S21x21 : Shape := ⟨2, ![21, 21]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel

variable [Facts]

def fn {F : FTy → Type} [FloatOps F] (main_arg0 : IVec S4x512x512 32) (main_arg1 : IVec S4x512x512 32) (main_arg2 : FVec F S21x21 .f32) : IVec S_ 1 :=
  let main_c : IVec S_ 32 := constantI S_ 32 0#32
  let main_v0 : IVec S4x512x512 32 := broadcastInDim S4x512x512 ![] bcast_S_S4x512x512 main_c
  let main_v1 : IVec S4x512x512 1 := cmpi .sge main_arg0 main_v0
  let main_c_0 : IVec S_ 32 := constantI S_ 32 21#32
  let main_v2 : IVec S4x512x512 32 := broadcastInDim S4x512x512 ![] bcast_S_S4x512x512 main_c_0
  let main_v3 : IVec S4x512x512 1 := cmpi .slt main_arg0 main_v2
  let main_v4 : IVec S4x512x512 1 := andi main_v1 main_v3
  let main_c_1 : IVec S_ 1 := constantI S_ 1 1#1
  let main_v5 : IVec S_ 1 := (fun x v => Host.reduce IntOp.andi x v reducesTo_S4x512x512_S_d0_1_2 h_S_) main_v4 main_c_1
  let main_c_2 : IVec S_ 32 := constantI S_ 32 0#32
  let main_v6 : IVec S4x512x512 32 := broadcastInDim S4x512x512 ![] bcast_S_S4x512x512 main_c_2
  let main_v7 : IVec S4x512x512 1 := cmpi .sge main_arg1 main_v6
  let main_c_3 : IVec S_ 32 := constantI S_ 32 21#32
  let main_v8 : IVec S4x512x512 32 := broadcastInDim S4x512x512 ![] bcast_S_S4x512x512 main_c_3
  let main_v9 : IVec S4x512x512 1 := cmpi .slt main_arg1 main_v8
  let main_v10 : IVec S4x512x512 1 := andi main_v7 main_v9
  let main_c_4 : IVec S_ 1 := constantI S_ 1 1#1
  let main_v11 : IVec S_ 1 := (fun x v => Host.reduce IntOp.andi x v reducesTo_S4x512x512_S_d0_1_2 h_S_) main_v10 main_c_4
  let main_v12 : IVec S_ 1 := andi main_v5 main_v11
  main_v12
-- ==== Kernel.lean ====
abbrev S4x512x512 : Shape := ⟨3, ![4, 512, 512]⟩
abbrev S21x21 : Shape := ⟨2, ![21, 21]⟩
abbrev S1048576 : Shape := ⟨1, ![1048576]⟩
abbrev S32x64x16 : Shape := ⟨3, ![32, 64, 16]⟩
abbrev S2x8192 : Shape := ⟨2, ![2, 8192]⟩
abbrev S16384 : Shape := ⟨1, ![16384]⟩
abbrev S64x16 : Shape := ⟨2, ![64, 16]⟩
abbrev S_ : Shape := ⟨0, ![]⟩
abbrev S1x8192 : Shape := ⟨2, ![1, 8192]⟩
abbrev S8192 : Shape := ⟨1, ![8192]⟩
abbrev S16 : Shape := ⟨1, ![16]⟩
abbrev S1x16 : Shape := ⟨2, ![1, 16]⟩
abbrev S1x64x16 : Shape := ⟨3, ![1, 64, 16]⟩
abbrev S32x32x32 : Shape := ⟨3, ![32, 32, 32]⟩
abbrev S32x32 : Shape := ⟨2, ![32, 32]⟩

abbrev nBuf : Table → Nat
  | .hbm => 8
  | .local .tc .vmem => 3
  | .local .scVector .vmem => 4
  | _ => 0

abbrev bufTy : (tb : Table) → Fin (nBuf tb) → BufTy
  | .hbm, ⟨0, _⟩ => ⟨S4x512x512, .i32⟩
  | .hbm, ⟨1, _⟩ => ⟨S4x512x512, .i32⟩
  | .hbm, ⟨2, _⟩ => ⟨S21x21, .f32⟩
  | .hbm, ⟨3, _⟩ => ⟨S1048576, .i32⟩
  | .hbm, ⟨4, _⟩ => ⟨S1048576, .i32⟩
  | .hbm, ⟨5, _⟩ => ⟨S32x64x16, .f32⟩
  | .hbm, ⟨6, _⟩ => ⟨S32x32x32, .f32⟩
  | .hbm, ⟨7, _⟩ => ⟨S21x21, .f32⟩
  | .local .tc .vmem, ⟨0, _⟩ => ⟨S32x32x32, .f32⟩
  | .local .tc .vmem, ⟨1, _⟩ => ⟨S21x21, .f32⟩
  | .local .tc .vmem, ⟨2, _⟩ => ⟨S21x21, .f32⟩
  | .local .scVector .vmem, ⟨0, _⟩ => ⟨S2x8192, .i32⟩
  | .local .scVector .vmem, ⟨1, _⟩ => ⟨S2x8192, .i32⟩
  | .local .scVector .vmem, ⟨2, _⟩ => ⟨S16384, .f32⟩
  | .local .scVector .vmem, ⟨3, _⟩ => ⟨S64x16, .f32⟩
  | _, _ => ⟨S4x512x512, .i32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 3
abbrev cc1_sem1_0 : DmaSem sig := 4
abbrev cc1_sem2_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v3 : BitVec 32 := Scalar.addi v2 c0_i32
  ![v3.toNat]
@[reducible] def k0_t1_loop : Scf.Loop 32 :=
  let c0_i32_7 : BitVec 32 := 0#32
  let c1024_i32 : BitVec 32 := 1024#32
  let v18 : BitVec 32 := Scalar.addi c0_i32_7 c1024_i32
  let c1_i32 : BitVec 32 := 1#32
  ⟨c0_i32_7, v18, c1_i32⟩
def k0_off2 (k0_t1 : Fin k0_t1_loop.trips) : Fin 1 → Nat :=
  let c0_i32_7 : BitVec 32 := 0#32
  let c1_i32 : BitVec 32 := 1#32
  let arg11 : BitVec 32 := Scf.iv c0_i32_7 c1_i32 k0_t1
  let c16_i32 : BitVec 32 := 16#32
  let v118 : BitVec 32 := Scalar.muli arg11 c16_i32
  let v119 : Index := Scalar.indexCast v118
  ![v119.toNat]
@[reducible] def k0_t2_loop : Scf.Loop 32 :=
  let c0_i32_25 : BitVec 32 := 0#32
  let c512_i32 : BitVec 32 := 512#32
  let v48 : BitVec 32 := Scalar.addi c0_i32_25 c512_i32
  let c1_i32_26 : BitVec 32 := 1#32
  ⟨c0_i32_25, v48, c1_i32_26⟩
def k0_off3 (k0_t2 : Fin k0_t2_loop.trips) : Fin 2 → Nat :=
  let c0_i32_80 : BitVec 32 := 0#32
  let v119 : Index := Scalar.indexCast c0_i32_80
  let c0_i32_25 : BitVec 32 := 0#32
  let c1_i32_26 : BitVec 32 := 1#32
  let arg11 : BitVec 32 := Scf.iv c0_i32_25 c1_i32_26 k0_t2
  let c16_i32 : BitVec 32 := 16#32
  let v118 : BitVec 32 := Scalar.muli arg11 c16_i32
  let v120 : Index := Scalar.indexCast v118
  ![0, v120.toNat]

def k0_chk1 (v129 : IVec S16 32) : Prop :=
  (∀ a x, ((![v129] : Fin 1 → IVec S16 32) a x).toNat < S16384.size a)
theorem k0_idx1_inb : ∀ (v129 : IVec S16 32) (k0_hw1 : k0_chk1 v129), ∀ a x, ((![v129] : Fin 1 → IVec S16 32) a x).toNat < S16384.size a := fun v129 k0_hw1 => k0_hw1
@[reducible] def k0_t3_loop : Scf.Loop 32 :=
  let c0_i32_42 : BitVec 32 := 0#32
  let c512_i32_43 : BitVec 32 := 512#32
  let v75 : BitVec 32 := Scalar.addi c0_i32_42 c512_i32_43
  let c1_i32_44 : BitVec 32 := 1#32
  ⟨c0_i32_42, v75, c1_i32_44⟩
def k0_off4 (k0_t3 : Fin k0_t3_loop.trips) : Fin 2 → Nat :=
  let c1_i32_80 : BitVec 32 := 1#32
  let v119 : Index := Scalar.indexCast c1_i32_80
  let c0_i32_42 : BitVec 32 := 0#32
  let c1_i32_44 : BitVec 32 := 1#32
  let arg11 : BitVec 32 := Scf.iv c0_i32_42 c1_i32_44 k0_t3
  let c16_i32 : BitVec 32 := 16#32
  let v118 : BitVec 32 := Scalar.muli arg11 c16_i32
  let v120 : Index := Scalar.indexCast v118
  ![1, v120.toNat]

def k0_chk2 (v129 : IVec S16 32) : Prop :=
  (∀ a x, ((![v129] : Fin 1 → IVec S16 32) a x).toNat < S16384.size a)
theorem k0_idx2_inb : ∀ (v129 : IVec S16 32) (k0_hw2 : k0_chk2 v129), ∀ a x, ((![v129] : Fin 1 → IVec S16 32) a x).toNat < S16384.size a := fun v129 k0_hw2 => k0_hw2
@[reducible] def k0_t4_loop : Scf.Loop 32 :=
  let c0_i32_60 : BitVec 32 := 0#32
  let c512_i32_61 : BitVec 32 := 512#32
  let v102 : BitVec 32 := Scalar.addi c0_i32_60 c512_i32_61
  let c1_i32_62 : BitVec 32 := 1#32
  ⟨c0_i32_60, v102, c1_i32_62⟩
def k0_off5 (k0_t4 : Fin k0_t4_loop.trips) : Fin 2 → Nat :=
  let c0_i32_80 : BitVec 32 := 0#32
  let v119 : Index := Scalar.indexCast c0_i32_80
  let c0_i32_60 : BitVec 32 := 0#32
  let c1_i32_62 : BitVec 32 := 1#32
  let arg11 : BitVec 32 := Scf.iv c0_i32_60 c1_i32_62 k0_t4
  let c16_i32 : BitVec 32 := 16#32
  let v118 : BitVec 32 := Scalar.muli arg11 c16_i32
  let v120 : Index := Scalar.indexCast v118
  ![0, v120.toNat]

def k0_chk3 (v129 : IVec S16 32) : Prop :=
  (∀ a x, ((![v129] : Fin 1 → IVec S16 32) a x).toNat < S16384.size a)
theorem k0_idx3_inb : ∀ (v129 : IVec S16 32) (k0_hw3 : k0_chk3 v129), ∀ a x, ((![v129] : Fin 1 → IVec S16 32) a x).toNat < S16384.size a := fun v129 k0_hw3 => k0_hw3
@[reducible] def k0_t5_loop : Scf.Loop 32 :=
  let c0_i32_72 : BitVec 32 := 0#32
  let c512_i32_73 : BitVec 32 := 512#32
  let v116 : BitVec 32 := Scalar.addi c0_i32_72 c512_i32_73
  let c1_i32_74 : BitVec 32 := 1#32
  ⟨c0_i32_72, v116, c1_i32_74⟩
def k0_off6 (k0_t5 : Fin k0_t5_loop.trips) : Fin 2 → Nat :=
  let c1_i32_80 : BitVec 32 := 1#32
  let v119 : Index := Scalar.indexCast c1_i32_80
  let c0_i32_72 : BitVec 32 := 0#32
  let c1_i32_74 : BitVec 32 := 1#32
  let arg11 : BitVec 32 := Scf.iv c0_i32_72 c1_i32_74 k0_t5
  let c16_i32 : BitVec 32 := 16#32
  let v118 : BitVec 32 := Scalar.muli arg11 c16_i32
  let v120 : Index := Scalar.indexCast v118
  ![1, v120.toNat]

def k0_chk4 (v129 : IVec S16 32) : Prop :=
  (∀ a x, ((![v129] : Fin 1 → IVec S16 32) a x).toNat < S16384.size a)
theorem k0_idx4_inb : ∀ (v129 : IVec S16 32) (k0_hw4 : k0_chk4 v129), ∀ a x, ((![v129] : Fin 1 → IVec S16 32) a x).toNat < S16384.size a := fun v129 k0_hw4 => k0_hw4
@[reducible] def k0_t6_loop : Scf.Loop 32 :=
  let c0_i32_77 : BitVec 32 := 0#32
  let c64_i32 : BitVec 32 := 64#32
  let v117 : BitVec 32 := Scalar.addi c0_i32_77 c64_i32
  let c1_i32_78 : BitVec 32 := 1#32
  ⟨c0_i32_77, v117, c1_i32_78⟩
def k0_off7 (k0_t6 : Fin k0_t6_loop.trips) : Fin 1 → Nat :=
  let c0_i32_77 : BitVec 32 := 0#32
  let c1_i32_78 : BitVec 32 := 1#32
  let arg11 : BitVec 32 := Scf.iv c0_i32_77 c1_i32_78 k0_t6
  let c16_i32 : BitVec 32 := 16#32
  let v118 : BitVec 32 := Scalar.muli arg11 c16_i32
  let v119 : Index := Scalar.indexCast v118
  ![v119.toNat]
def k0_off8 (k0_t6 : Fin k0_t6_loop.trips) (c1024_i32_81 : BitVec 32) : Fin 1 → Nat :=
  let c0_i32_77 : BitVec 32 := 0#32
  let c1_i32_78 : BitVec 32 := 1#32
  let arg11 : BitVec 32 := Scf.iv c0_i32_77 c1_i32_78 k0_t6
  let c16_i32_80 : BitVec 32 := 16#32
  let v121 : BitVec 32 := Scalar.muli arg11 c16_i32_80
  let v122 : BitVec 32 := Scalar.addi c1024_i32_81 v121
  let v123 : Index := Scalar.indexCast v122
  ![v123.toNat]
def k0_off9 (k0_t6 : Fin k0_t6_loop.trips) : Fin 2 → Nat :=
  let c0_i32_77 : BitVec 32 := 0#32
  let c1_i32_78 : BitVec 32 := 1#32
  let arg11 : BitVec 32 := Scf.iv c0_i32_77 c1_i32_78 k0_t6
  let v196 : Index := Scalar.indexCast arg11
  let c0 : Index := 0#32
  ![v196.toNat, 0]
def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_80_r0 : BitVec 32 := 0#32
  let c0_i32_81_r0 : BitVec 32 := 0#32
  ![v1.toNat, 0, 0]
abbrev grid1 : Pipeline.Grid := .none

abbrev stage1_0 : Fin 1 → Memref sig .tc .vmem S32x32x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S21x21 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S21x21 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x512x512 : Shape := ⟨3, ![4, 512, 512]⟩
abbrev S21x21 : Shape := ⟨2, ![21, 21]⟩
abbrev S1048576 : Shape := ⟨1, ![1048576]⟩
abbrev S_ : Shape := ⟨0, ![]⟩
abbrev S1048576x1 : Shape := ⟨2, ![1048576, 1]⟩
abbrev S1x21 : Shape := ⟨2, ![1, 21]⟩
abbrev S1048576x21 : Shape := ⟨2, ![1048576, 21]⟩
abbrev S21x1048576 : Shape := ⟨2, ![21, 1048576]⟩

abbrev nBuf : Space → Nat
  | .hbm => 27
  | .vmem => 0
  | .smem => 0
  | _ => 0

abbrev bufTy : (tb : Table) → Fin (tcTables nBuf tb) → BufTy
  | .hbm, ⟨0, _⟩ => ⟨S4x512x512, .i32⟩
  | .hbm, ⟨1, _⟩ => ⟨S4x512x512, .i32⟩
  | .hbm, ⟨2, _⟩ => ⟨S21x21, .f32⟩
  | .hbm, ⟨3, _⟩ => ⟨S1048576, .i32⟩
  | .hbm, ⟨4, _⟩ => ⟨S1048576, .i32⟩
  | .hbm, ⟨5, _⟩ => ⟨S_, .i32⟩
  | .hbm, ⟨6, _⟩ => ⟨S1048576, .i32⟩
  | .hbm, ⟨7, _⟩ => ⟨S1048576, .i1⟩
  | .hbm, ⟨8, _⟩ => ⟨S1048576, .f32⟩
  | .hbm, ⟨9, _⟩ => ⟨S1048576x1, .i32⟩
  | .hbm, ⟨10, _⟩ => ⟨S1x21, .i32⟩
  | .hbm, ⟨11, _⟩ => ⟨S1048576x21, .i32⟩
  | .hbm, ⟨12, _⟩ => ⟨S1048576x21, .i32⟩
  | .hbm, ⟨13, _⟩ => ⟨S1048576x21, .i1⟩
  | .hbm, ⟨14, _⟩ => ⟨S1048576x21, .f32⟩
  | .hbm, ⟨15, _⟩ => ⟨S1048576x1, .f32⟩
  | .hbm, ⟨16, _⟩ => ⟨S1048576x21, .f32⟩
  | .hbm, ⟨17, _⟩ => ⟨S1048576x21, .f32⟩
  | .hbm, ⟨18, _⟩ => ⟨S1048576x1, .i32⟩
  | .hbm, ⟨19, _⟩ => ⟨S1x21, .i32⟩
  | .hbm, ⟨20, _⟩ => ⟨S1048576x21, .i32⟩
  | .hbm, ⟨21, _⟩ => ⟨S1048576x21, .i32⟩
  | .hbm, ⟨22, _⟩ => ⟨S1048576x21, .i1⟩
  | .hbm, ⟨23, _⟩ => ⟨S1048576x21, .f32⟩
  | .hbm, ⟨24, _⟩ => ⟨S21x1048576, .f32⟩
  | .hbm, ⟨25, _⟩ => ⟨S21x21, .f32⟩
  | .hbm, ⟨26, _⟩ => ⟨S21x21, .f32⟩
  | _, _ => ⟨S4x512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]
-- ==== Proof.Setup.lean ====
/-
  The set-up of the SparseCore launch of `cc0__cm_sc_kernel` and the words its tiles compute with: the launch as the
  library's theorem sees it, the ghost state, the buffers a tile holds, and — as plain functions of the two label arrays —
  what a tile's sixteen-lane histogram holds after any number of vectors.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.ValueKit.Geometry
public import Idealize.ShloMosaic.Lib.LaneScatter.Casts
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev K [FloatOps F] : SparseCore.Cfg τ sig (Pipeline.Sig Λ₀ (Fin 1) fun p => (pcfgs (F := F) p).Adm) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (Pipeline.Sig Λ₀ (Fin 1) fun p => (pcfgs (F := F) p).Adm) := Pipeline.defs pcfgs defs₀
abbrev 𝒱₀ : Variants := Variants.none

/-! ## The ghost state: the handshakes' rounds, the TensorCore call's staging rounds and the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL
abbrev EP : Emb (UR sig nD τ) (MT nD τ sig (HIx 1) (Elt F) ℕ UU ℕ) := (Emb.inl : Emb (UR sig nD τ) (UR sig nD τ × Counters)).trans embR

/-! ## The buffers of a tile -/

/-! The kernel's arrays, whole: the two label arrays, the partial histograms, the two label scratches, the accumulator, the part. -/

abbrev yV : Memref sig Kind.scVector Space.hbm S1048576 EltTy.i32 := Memref.whole main_v0_scv
abbrev pV : Memref sig Kind.scVector Space.hbm S1048576 EltTy.i32 := Memref.whole main_v1_scv
abbrev oV : Memref sig Kind.scVector Space.hbm S32x64x16 EltTy.f32 := Memref.whole main_v2_scv
abbrev sY : Memref sig Kind.scVector Space.vmem S2x8192 EltTy.i32 := Memref.whole cc0_scratch0
abbrev sP : Memref sig Kind.scVector Space.vmem S2x8192 EltTy.i32 := Memref.whole cc0_scratch1
abbrev sA : Memref sig Kind.scVector Space.vmem S16384 EltTy.f32 := Memref.whole cc0_scratch2
abbrev sO : Memref sig Kind.scVector Space.vmem S64x16 EltTy.f32 := Memref.whole cc0_scratch3

abbrev cV (L : grid0.Coords) : Fin τ.nSC := (L 0).castLE hcore0
abbrev jV (L : grid0.Coords) : Fin τ.nSub := (L 1).castLE hsub0
/-- The vector subcore a task runs on. -/
abbrev thrV (d : Dev nD) (L : grid0.Coords) : Thread nD τ := V d (cV L) (jV L)

/-- The number of the worker at a core and a subcore. -/
def wid (L : grid0.Coords) : ℕ := 2 * (L 1).val + (L 0).val
theorem wid_lt (L : grid0.Coords) : wid L < 32 := by
  have h0 : (L 0).val < 2 := (L 0).isLt
  have h1 : (L 1).val < 16 := (L 1).isLt
  unfold wid; omega

/-! ## The words of a chunk -/

/-- The pixel numbered `n` (below the count it is pixel `n`). -/
def px (n : ℕ) : S1048576.Idx := fun | 0 => ⟨n % 1048576, Nat.mod_lt n (show 0 < 1048576 by decide)⟩
/-- The accumulator's cell numbered `n`. -/
def cell (n : ℕ) : S16384.Idx := fun | 0 => ⟨n % 16384, Nat.mod_lt n (show 0 < 16384 by decide)⟩

/-- A column of the part, as a lane number. -/
def lane16 (n : ℕ) : S16.Idx := fun | 0 => ⟨n % 16, Nat.mod_lt n (show 0 < 16 by decide)⟩

/-- A label scratch whose slots hold the 8192 pixels from `base` on. -/
def slotFill (y : S1048576.Idx → Elt F .i32) (base : ℕ) : S2x8192.Idx → Elt F .i32 := fun j => y (px (base + (j 1).val))
/-- Sixteen labels from pixel `n` on, as a vector load reads them. -/
def lanesAt (y : S1048576.Idx → Elt F .i32) (n : ℕ) : S1x16.Idx → Elt F .i32 := fun x => y (px (n + (x 1).val))

variable [FloatOps F]

/-- One vector scattered: each lane adds one at the cell its two labels and its lane name. -/
def accStep (a : S16384.Idx → Elt F .f32) (l₁ l₂ : S1x16.Idx → Elt F .i32) : S16384.Idx → Elt F .f32 :=
  open scoped Classical in
  if h : k0_chk1 (k0_pay5 (F := F) k0_pay3 l₁ l₂) then
    storeIdx (F := F) (s := S16384) (e := .f32) a ![k0_pay5 (F := F) k0_pay3 l₁ l₂] (k0_pay4 (F := F)) (fun _ => 1#1) true (k0_idx1_inb _ h)
  else a

/-- The accumulator after `n` vectors from pixel `base` on, from zero. -/
def accAt (y p : S1048576.Idx → Elt F .i32) (base : ℕ) : ℕ → S16384.Idx → Elt F .f32
  | 0 => fun _ => k0_pay2 (F := F) (lane16 0)
  | n + 1 => accStep (accAt y p base n) (lanesAt y (base + 16 * n)) (lanesAt p (base + 16 * n))

/-- Sixteen words of the accumulator from cell `n` on. -/
def rowAt (a : S16384.Idx → Elt F .f32) (n : ℕ) : S16.Idx → Elt F .f32 := fun x => a (cell (n + (x 0).val))

/-- Row `t` of the part: the sixteen lanes' words at the sixteen cells from `16 t` on, summed. -/
def partRow (a : S16384.Idx → Elt F .f32) (t : ℕ) : S16.Idx → Elt F .f32 :=
  k0_pay9 (k0_pay1 (rowAt a (16 * t)) (rowAt a (16 * t + 1024)) (rowAt a (16 * t + 2048)) (rowAt a (16 * t + 3072)) (rowAt a (16 * t + 4096))
      (rowAt a (16 * t + 5120)) (rowAt a (16 * t + 6144)) (rowAt a (16 * t + 7168)))
    (rowAt a (16 * t + 8192)) (rowAt a (16 * t + 9216)) (rowAt a (16 * t + 10240)) (rowAt a (16 * t + 11264)) (rowAt a (16 * t + 12288))
    (rowAt a (16 * t + 13312)) (rowAt a (16 * t + 14336)) (rowAt a (16 * t + 15360))

/-- The part a tile writes out, from its accumulator. -/
def partAt (a : S16384.Idx → Elt F .f32) : S64x16.Idx → Elt F .f32 := fun j => partRow a (j 0).val (lane16 (j 1).val)

/-- The 32 parts the tiles leave: row `w` from the 32768 pixels from `32768 w` on. -/
def parts (y p : S1048576.Idx → Elt F .i32) : S32x64x16.Idx → Elt F .f32 :=
  fun j => partAt (accAt y p (32768 * (j 0).val) 2048) (fun | 0 => j 1 | 1 => j 2)

end Cert.Proof.KernelIdeal

end
-- ==== Proof.Trips.lean ====
/-
  The tile's loops, one trip each: a vector of labels scattered into the accumulator, for any slot and any of the four
  loops; the zeroing; the summing of the sixteen lanes.
-/
module

public import proofs.«01_k».proof.Proof.Setup

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Slots -/

theorem slot_inb (s : Fin 2) : ∀ a, (![s.val, 0] : Fin 2 → ℕ) a + S1x8192.size a ≤ S2x8192.size a := by
  revert s; decide
/-- Slot `s` of a label scratch. -/
abbrev slotR (s : Fin 2) : Rect S2x8192 := Rect.unit (s := S2x8192) ![s.val, 0] S1x8192.size (slot_inb s)
abbrev ySlot (s : Fin 2) : Memref sig .scVector .vmem S8192 .i32 := (sY.slice (slotR s) (fun _ => rfl)).squeeze S8192 squeezes_S1x8192_S8192
abbrev pSlot (s : Fin 2) : Memref sig .scVector .vmem S8192 .i32 := (sP.slice (slotR s) (fun _ => rfl)).squeeze S8192 squeezes_S1x8192_S8192

theorem ySlot_set (s : Fin 2) : (ySlot s).view.set = (slotR s).set := by
  show ((sY.view.slice (slotR s)).reshape S8192 squeezes_S1x8192_S8192.numel_eq).set = _
  rw [View.set_reshape]; exact View.set_slice_whole _ _
theorem pSlot_set (s : Fin 2) : (pSlot s).view.set = (slotR s).set := by
  show ((sP.view.slice (slotR s)).reshape S8192 squeezes_S1x8192_S8192.numel_eq).set = _
  rw [View.set_reshape]; exact View.set_slice_whole _ _

/-- Sixteen words of a slot lie in it. -/
theorem lanes_subset {s : Fin 2} {n : ℕ} {off : Fin 2 → ℕ} (ho : off = ![s.val, 16 * n]) (hn : n < 512)
    (inb : ∀ a, off a + S1x16.size a ≤ S2x8192.size a) :
    (Rect.unit (s := S2x8192) off S1x16.size inb).set ⊆ (slotR s).set := by
  subst ho
  intro i hi
  rw [Rect.mem_set_unit] at hi ⊢
  intro a
  have h := hi a
  match a with
  | 0 => exact h
  | 1 =>
    have h1 : 16 * n ≤ (i 1).val ∧ (i 1).val < 16 * n + 16 := h
    show 0 ≤ (i 1).val ∧ (i 1).val < 0 + 8192
    omega

/-- A vector load of a filled slot reads the labels from its pixel on. -/
theorem lanes_read (y : S1048576.Idx → Elt F .i32) (base : ℕ) {s : Fin 2} {n : ℕ} {off : Fin 2 → ℕ} (ho : off = ![s.val, 16 * n])
    (inb : ∀ a, off a + S1x16.size a ≤ S2x8192.size a) :
    (fun x => slotFill y base ((Rect.unit (s := S2x8192) off S1x16.size inb).emb x)) = lanesAt y (base + 16 * n) := by
  subst ho
  funext x
  show y (px (base + ((Rect.unit (s := S2x8192) _ S1x16.size inb).emb x 1).val)) = y (px (base + 16 * n + (x 1).val))
  rw [ValueKit.rect_emb_unit_val, ← Nat.add_assoc]
  rfl

variable [FloatOps F]

/-! ## A vector scattered -/

/-- The region of the four scatter loops: sixteen labels of each array loaded, their cells checked, one added at each. -/
def trip (L : grid0.Coords) (off : Fin 2 → ℕ) (inb : ∀ a, off a + S1x16.size a ≤ S2x8192.size a) (v20 : IVec S16 32) (v21 : FVec F S16 .f32) :
    Prog (TpuEff nD τ sig (Elt F) Λ₀ (.scVector ((L 0).castLE hcore0) ((L 1).castLE hsub0))) Unit := do
  let l₁ : Vec F S1x16 .i32 ← Prog.lift (.load sY (Rect.unit (s := S2x8192) off S1x16.size inb).toLoadRect (View.loadsAt_vmem h_S1x16))
  let l₂ : Vec F S1x16 .i32 ← Prog.lift (.load sP (Rect.unit (s := S2x8192) off S1x16.size inb).toLoadRect (View.loadsAt_vmem h_S1x16))
  have b : IVec S16 32 := k0_pay5 v20 l₁ l₂
  have hw : k0_chk1 b := (← Prog.lift (TpuEff.assume (k0_chk1 b) (k0_chk1.dec b))).down
  SparseCore.vectorStoreIdx sA ![b] v21 (fun _ => 1#1) true (k0_idx1_inb b hw) (View.stores_vmem_bits_univ h_S16384 rfl)
  pure ⟨⟩

section Wp
variable (d : Dev nD) (L : grid0.Coords)

theorem wp_trip (y p : S1048576.Idx → Elt F .i32) (base : ℕ) (s : Fin 2) (n : ℕ) (hn : n < 512) (off : Fin 2 → ℕ) (ho : off = ![s.val, 16 * n])
    (inb : ∀ a, off a + S1x16.size a ≤ S2x8192.size a) (a : S16384.Idx → Elt F .f32)
    (hc : k0_chk1 (k0_pay5 (F := F) k0_pay3 (lanesAt y (base + 16 * n)) (lanesAt p (base + 16 * n)))) :
    iprop(((ySlot s).view.loc (thrV d L) ↦[(ySlot s).view.set]{fullShare} slotFill y base)
        ∗ ((pSlot s).view.loc (thrV d L) ↦[(pSlot s).view.set]{fullShare} slotFill p base)
        ∗ ((thrV d L).loc cc0_scratch2 ↦{fullShare} a))
      ⊢ wp frame (wpE (defs₀ (F := F)) 𝒱₀ (thrV d L) none) Set.univ (trip L off inb k0_pay3 (k0_pay4 (F := F)))
          fun _ => iprop((((ySlot s).view.loc (thrV d L) ↦[(ySlot s).view.set]{fullShare} slotFill y base)
            ∗ ((pSlot s).view.loc (thrV d L) ↦[(pSlot s).view.set]{fullShare} slotFill p base)
            ∗ ((thrV d L).loc cc0_scratch2 ↦{fullShare} accStep a (lanesAt y (base + 16 * n)) (lanesAt p (base + 16 * n))) : sProp 𝕄)) := by
  iintro ⟨HY, HP, HA⟩
  unfold trip
  simp only [Prog.lift, Prog.bind_op, Prog.bind_ret, Prog.pure_eq_ret]
  have hsy : sY.view.setOn (Rect.unit (s := S2x8192) off S1x16.size inb).toLoadRect.set ⊆ (ySlot s).view.set := by
    rw [ySlot_set]; exact (Finset.map_refl).le.trans (lanes_subset ho hn inb)
  have hsp : sP.view.setOn (Rect.unit (s := S2x8192) off S1x16.size inb).toLoadRect.set ⊆ (pSlot s).view.set := by
    rw [pSlot_set]; exact (Finset.map_refl).le.trans (lanes_subset ho hn inb)
  have hry : sY.view.readAt (Elt F) (Rect.unit (s := S2x8192) off S1x16.size inb).toLoadRect (slotFill y base) = lanesAt y (base + 16 * n) :=
    lanes_read y base ho inb
  have hrp : sP.view.readAt (Elt F) (Rect.unit (s := S2x8192) off S1x16.size inb).toLoadRect (slotFill p base) = lanesAt p (base + 16 * n) :=
    lanes_read p base ho inb
  iapply (wp_load 𝒱₀ (thrV d L) none Set.univ (m := sY) (S := (ySlot s).view.set) hsy) $$ HY
  iintro HY
  rw [hry]
  iapply (wp_load 𝒱₀ (thrV d L) none Set.univ (m := sP) (S := (pSlot s).view.set) hsp) $$ HP
  iintro HP
  rw [hrp, wp_assume_of _ _ _ _ hc]
  have hset : (sA.access (.whole S16384)).set = Finset.univ := Memref.set_access_whole cc0_scratch2
  ihave HA := (Entails.of_eq (show ((thrV d L).loc cc0_scratch2 ↦{fullShare} a : sProp 𝕄)
    = ((sA.access (.whole S16384)).loc (thrV d L) ↦[(sA.access (.whole S16384)).set]{fullShare} a) by rw [hset])) $$ HA
  iapply (SparseCore.wp_vectorStoreIdx 𝒱₀ (thrV d L) none Set.univ (base := sA)) $$ HA
  iintro HA
  rw [hset, show (sA.access (.whole S16384)).read (Elt F) a = a from Memref.read_access_whole (Elt F) cc0_scratch2 a]
  ihave HA := (Entails.of_eq (congrArg (fun f => ((thrV d L).loc cc0_scratch2 ↦{fullShare} f : sProp 𝕄))
    (Memref.write_access_whole_univ (Elt F) cc0_scratch2 a _))) $$ HA
  sl_step
  isplitl [HY]; · iexact HY
  isplitl [HP]; · iexact HP
  rw [show accStep a (lanesAt y (base + 16 * n)) (lanesAt p (base + 16 * n)) = _ from dif_pos hc]
  iexact HA

/-- What the scatter loop over a slot keeps: the slots filled, the accumulator after the vectors so far. -/
def scatInv (y p : S1048576.Idx → Elt F .i32) (base q : ℕ) (s : Fin 2) (n : ℕ) : sProp 𝕄 :=
  iprop(((ySlot s).view.loc (thrV d L) ↦[(ySlot s).view.set]{fullShare} slotFill y (base + 8192 * q))
    ∗ ((pSlot s).view.loc (thrV d L) ↦[(pSlot s).view.set]{fullShare} slotFill p (base + 8192 * q))
    ∗ ((thrV d L).loc cc0_scratch2 ↦{fullShare} accAt y p base (512 * q + n)))

/-- A scatter loop over slot `s` holding chunk `q`: 512 vectors on, at any continuation. -/
theorem wp_scatter (y p : S1048576.Idx → Elt F .i32) (base q : ℕ) (s : Fin 2) (l : Scf.Loop 32) (hl : l.OK) (ht : l.trips = 512)
    (off : Fin l.trips → Fin 2 → ℕ) (ho : ∀ k, off k = ![s.val, 16 * k.val])
    (inb : ∀ k, ∀ a, off k a + S1x16.size a ≤ S2x8192.size a)
    (hc : ∀ n, k0_chk1 (k0_pay5 (F := F) k0_pay3 (lanesAt y n) (lanesAt p n)))
    {kk : Unit → Prog (TpuEff nD τ sig (Elt F) Λ₀ (.scVector ((L 0).castLE hcore0) ((L 1).castLE hsub0))) Unit} {Q : Unit → sProp 𝕄} :
    (scatInv d L y p base q s 0 : sProp 𝕄)
      ⊢ iprop((scatInv d L y p base q s 512 -∗ wp frame (wpE (defs₀ (F := F)) 𝒱₀ (thrV d L) none) Set.univ (kk ()) Q)
        -∗ wp frame (wpE (defs₀ (F := F)) 𝒱₀ (thrV d L) none) Set.univ
            (Scf.Loop.for l hl () (fun k _ => trip L (off k) (inb k) k0_pay3 (k0_pay4 (F := F))) >>= kk) Q) := by
  have step : ∀ (k : Fin l.trips) (acc : Unit), (fun n _ => scatInv d L y p base q s n : ℕ → Unit → sProp 𝕄) k.val acc
      ⊢ wp frame (wpE (defs₀ (F := F)) 𝒱₀ (thrV d L) none) Set.univ (trip L (off k) (inb k) k0_pay3 (k0_pay4 (F := F)))
        ((fun n _ => scatInv d L y p base q s n : ℕ → Unit → sProp 𝕄) (k.val + 1)) := by
    intro k _
    have hk : k.val < 512 := ht ▸ k.isLt
    have h := wp_trip d L y p (base + 8192 * q) s k.val hk (off k) (ho k) (inb k) (accAt y p base (512 * q + k.val)) (hc _ )
    have e : base + 8192 * q + 16 * k.val = base + 16 * (512 * q + k.val) := by omega
    rw [e] at h
    exact h
  iintro HI HK
  iapply (Scf.wp_for_bind frame (wpE (defs₀ (F := F)) 𝒱₀ (thrV d L) none) Set.univ l.lb l.ub l.st hl ()
    (fun k _ => trip L (off k) (inb k) k0_pay3 (k0_pay4 (F := F))) (fun n _ => scatInv d L y p base q s n) step) $$ HI
  iintro %acc HI
  iapply HK
  rw [show Scf.trips l.lb l.ub l.st = 512 from ht]
  iexact HI

/-! ## The zeroing -/

/-- Writing sixteen words at cell `n`, cell by cell. -/
theorem row_write (f : S16384.Idx → Elt F .f32) (w : S16.Idx → Elt F .f32) {n : ℕ} {off : Fin 1 → ℕ} (ho : off = ![n])
    (inb : ∀ a, off a + S16.size a ≤ S16384.size a) (j : S16384.Idx) :
    (sA.access (Rect.unit (s := S16384) off S16.size inb)).write (Elt F) f w Finset.univ j
      = if n ≤ (j 0).val ∧ (j 0).val < n + 16 then w (lane16 ((j 0).val - n)) else f j := by
  subst ho
  split_ifs with h
  · have e : j = (sA.access (Rect.unit (s := S16384) ![n] S16.size inb)).emb (lane16 ((j 0).val - n)) := by
      funext a
      match a with
      | 0 =>
        refine Fin.ext (Eq.trans ?_ (ValueKit.rect_emb_unit_val (s := S16384) ![n] S16.size inb (lane16 ((j 0).val - n)) 0).symm)
        show (j 0).val = n + ((j 0).val - n) % 16
        omega
    conv_lhs => rw [e]
    rw [View.write_emb_of_mem _ _ (Finset.mem_univ _)]; exact cast_eq _ _
  · refine View.write_of_not_mem _ _ _ fun hj => h ?_
    have hj' : j ∈ (Rect.unit (s := S16384) ![n] S16.size inb).set := by
      rw [View.setOn_univ] at hj
      exact (View.set_slice_whole cc0_scratch2 (Rect.unit (s := S16384) ![n] S16.size inb)) ▸ hj
    exact Rect.mem_set_unit.mp hj' 0

/-- Sixteen words of the accumulator stored. -/
theorem wp_put_acc {A : Type} (a : S16384.Idx → Elt F .f32) {n : ℕ} {off : Fin 1 → ℕ} (ho : off = ![n]) (inb : ∀ a, off a + S16.size a ≤ S16384.size a)
    {w : S16.Idx → Elt F .f32}
    {hx : (sA.access (Rect.unit (s := S16384) off S16.size inb)).Stores Finset.univ}
    {hm : (Finset.univ : Finset S16.Idx) = Finset.univ ∨ ∀ a, (Rect.unit (s := S16384) off S16.size inb).stride a = 1}
    {k : PUnit → Prog (TpuEff nD τ sig (Elt F) Λ₀ (thrV d L).2) A} {Q : A → sProp 𝕄} :
    ((thrV d L).loc cc0_scratch2 ↦{fullShare} a : sProp 𝕄)
      ⊢ iprop((((thrV d L).loc cc0_scratch2 ↦{fullShare} (fun j => if n ≤ (j 0).val ∧ (j 0).val < n + 16 then w (lane16 ((j 0).val - n)) else a j : S16384.Idx → Elt F .f32))
          -∗ wp frame (wpE (defs₀ (F := F)) 𝒱₀ (thrV d L) none) Set.univ (k ⟨⟩) Q)
        -∗ wp frame (wpE (defs₀ (F := F)) 𝒱₀ (thrV d L) none) Set.univ
            (.op (.store sA (Rect.unit (s := S16384) off S16.size inb) w Finset.univ hx hm) k) Q) := by
  refine Entails.trans (wp_store (defs := defs₀ (F := F)) 𝒱₀ (thrV d L) none Set.univ (m := sA) (r := Rect.unit (s := S16384) off S16.size inb) (w := w) (Mk := Finset.univ)
    (hx := hx) (hm := hm) (k := k) (Q := Q) (S := Finset.univ) (f := a) (Finset.subset_univ _)) (wand_mono_left (wand_mono_left ?_))
  exact Entails.of_eq (congrArg (fun g : S16384.Idx → Elt F .f32 => ((thrV d L).loc cc0_scratch2 ↦{fullShare} g : sProp 𝕄)) (funext (row_write a w ho inb)))

/-- The word the accumulator is zeroed to. -/
def zeroWord : Elt F .f32 := k0_pay2 (F := F) (lane16 0)

/-- What the zeroing loop keeps: the accumulator's first `16 n` words zero. -/
def zeroInv (n : ℕ) : sProp 𝕄 :=
  iprop(∃ a : S16384.Idx → Elt F .f32, ⌜∀ j, (j 0).val < 16 * n → a j = zeroWord⌝ ∗ ((thrV d L).loc cc0_scratch2 ↦{fullShare} a))

theorem wp_zero_trip (k : Fin k0_t1_loop.trips) :
    (zeroInv d L k.val : sProp 𝕄) ⊢ wp frame (wpE (defs₀ (F := F)) 𝒱₀ (thrV d L) none) Set.univ
      (k0_t1_body (F := F) L yV (Memref.isWhole_whole _) pV (Memref.isWhole_whole _) oV (Memref.isWhole_whole _) sY (Memref.isWhole_whole _) sP (Memref.isWhole_whole _)
      sA (Memref.isWhole_whole _) sO (Memref.isWhole_whole _) cc0_scratch4 cc0_scratch5 cc0_scoped0 k ()) fun _ => zeroInv d L (k.val + 1) := by
  unfold k0_t1_body zeroInv
  simp only [Prog.lift, Prog.bind_op, Prog.bind_ret, Prog.pure_eq_ret]
  iintro ⟨%a, %ha, HA⟩
  iapply (wp_load 𝒱₀ (thrV d L) none Set.univ (m := sA) (S := Finset.univ) (Finset.subset_univ _)) $$ HA
  iintro HA
  iapply (wp_put_acc d L a (k0_off2_eq k) (k0_off2_inb k)) $$ HA
  iintro HA
  sl_step
  iexists _
  isplitr
  swap; · iexact HA
  ipureintro
  intro j hj
  dsimp only
  split_ifs with h
  · rfl
  · exact ha j (by omega)

/-- The zeroing loop: from any contents to the accumulator at no vectors, at any continuation. -/
theorem wp_zero {A : Type} (y p : S1048576.Idx → Elt F .i32) (base : ℕ) (a : S16384.Idx → Elt F .f32)
    {kk : Unit → Prog (TpuEff nD τ sig (Elt F) Λ₀ (.scVector ((L 0).castLE hcore0) ((L 1).castLE hsub0))) A} {Q : A → sProp 𝕄} :
    ((thrV d L).loc cc0_scratch2 ↦{fullShare} a : sProp 𝕄)
      ⊢ iprop((((thrV d L).loc cc0_scratch2 ↦{fullShare} accAt y p base 0) -∗ wp frame (wpE (defs₀ (F := F)) 𝒱₀ (thrV d L) none) Set.univ (kk ()) Q)
        -∗ wp frame (wpE (defs₀ (F := F)) 𝒱₀ (thrV d L) none) Set.univ
            (Scf.Loop.for k0_t1_loop k0_t1_ok () (k0_t1_body (F := F) L yV (Memref.isWhole_whole _) pV (Memref.isWhole_whole _) oV (Memref.isWhole_whole _) sY (Memref.isWhole_whole _) sP (Memref.isWhole_whole _)
      sA (Memref.isWhole_whole _) sO (Memref.isWhole_whole _) cc0_scratch4 cc0_scratch5 cc0_scoped0) >>= kk) Q) := by
  iintro HA HK
  iapply (Scf.wp_for_bind frame (wpE (defs₀ (F := F)) 𝒱₀ (thrV d L) none) Set.univ _ _ _ k0_t1_ok () _
    (fun n _ => zeroInv d L n) (fun k _ => wp_zero_trip d L k)) $$ [HA]
  · unfold zeroInv
    iexists a
    isplitr; · ipureintro; intro j hj; exact absurd hj (by omega)
    iexact HA
  iintro %acc HI
  iapply HK
  unfold zeroInv
  icases HI with ⟨%b, %hb, HA⟩
  rw [show accAt y p base 0 = b from funext fun j => (hb j (show (j 0).val < 16 * 1024 from (j 0).isLt)).symm]
  iexact HA

/-! ## The sixteen lanes summed -/

/-- A load of sixteen words of the accumulator at cell `n`. -/
theorem row_read (a : S16384.Idx → Elt F .f32) {n : ℕ} {off : Fin 1 → ℕ} (ho : off = ![n]) (inb : ∀ a, off a + S16.size a ≤ S16384.size a) :
    sA.view.readAt (Elt F) (Rect.unit (s := S16384) off S16.size inb).toLoadRect a = rowAt a n := by
  subst ho
  funext x
  have hn : n + 16 ≤ 16384 := inb 0
  have hx : (x 0).val < 16 := (x 0).isLt
  show a ((Rect.unit (s := S16384) ![n] S16.size inb).emb x) = a (cell (n + (x 0).val))
  congr 1
  funext b
  match b with
  | 0 =>
    refine Fin.ext ((ValueKit.rect_emb_unit_val (s := S16384) ![n] S16.size inb x 0).trans ?_)
    show n + (x 0).val = (n + (x 0).val) % 16384
    omega

/-- The same as a step. -/
theorem wp_row {A : Type} (a : S16384.Idx → Elt F .f32) {n : ℕ} {off : Fin 1 → ℕ} (ho : off = ![n]) (inb : ∀ a, off a + S16.size a ≤ S16384.size a)
    {hl : sA.view.LoadsAt (Rect.unit (s := S16384) off S16.size inb).toLoadRect}
    {k : (S16.Idx → Elt F .f32) → Prog (TpuEff nD τ sig (Elt F) Λ₀ (thrV d L).2) A} {Q : A → sProp 𝕄} :
    ((thrV d L).loc cc0_scratch2 ↦{fullShare} a : sProp 𝕄)
      ⊢ iprop((((thrV d L).loc cc0_scratch2 ↦{fullShare} a) -∗ wp frame (wpE (defs₀ (F := F)) 𝒱₀ (thrV d L) none) Set.univ (k (rowAt a n)) Q)
        -∗ wp frame (wpE (defs₀ (F := F)) 𝒱₀ (thrV d L) none) Set.univ
            (.op (.load sA (Rect.unit (s := S16384) off S16.size inb).toLoadRect hl) k) Q) := by
  rw [← row_read a ho inb]
  exact wp_load 𝒱₀ (thrV d L) none Set.univ (m := sA) (S := Finset.univ) (Finset.subset_univ _)

theorem off8_at (k : Fin k0_t6_loop.trips) (r : Fin 15) :
    k0_off8 k (BitVec.ofNat 32 (1024 + 1024 * r.val)) = ![16 * k.val + 1024 * (r.val + 1)] := by
  rw [k0_off8_eq]; congr 1; omega

/-- A column of a one-row vector. -/
def col16 (n : ℕ) : S1x16.Idx := fun | 0 => ⟨0, Nat.one_pos⟩ | 1 => ⟨n % 16, Nat.mod_lt n (show 0 < 16 by decide)⟩

/-- Writing a row of the part, cell by cell. -/
theorem part_write (f : S64x16.Idx → Elt F .f32) (w : S1x16.Idx → Elt F .f32) {n : ℕ} {off : Fin 2 → ℕ} (ho : off = ![n, 0])
    (inb : ∀ a, off a + S1x16.size a ≤ S64x16.size a) (j : S64x16.Idx) :
    (sO.access (Rect.unit (s := S64x16) off S1x16.size inb)).write (Elt F) f w Finset.univ j
      = if (j 0).val = n then w (col16 (j 1).val) else f j := by
  subst ho
  split_ifs with h
  · have e : j = (sO.access (Rect.unit (s := S64x16) ![n, 0] S1x16.size inb)).emb (col16 (j 1).val) := by
      have h1 : (j 1).val < 16 := (j 1).isLt
      funext a
      match a with
      | 0 =>
        refine Fin.ext (Eq.trans ?_ (ValueKit.rect_emb_unit_val (s := S64x16) ![n, 0] S1x16.size inb (col16 (j 1).val) 0).symm)
        exact h
      | 1 =>
        refine Fin.ext (Eq.trans ?_ (ValueKit.rect_emb_unit_val (s := S64x16) ![n, 0] S1x16.size inb (col16 (j 1).val) 1).symm)
        show (j 1).val = 0 + (j 1).val % 16
        omega
    conv_lhs => rw [e]
    rw [View.write_emb_of_mem _ _ (Finset.mem_univ _)]; exact cast_eq _ _
  · refine View.write_of_not_mem _ _ _ fun hj => h ?_
    have hj' : j ∈ (Rect.unit (s := S64x16) ![n, 0] S1x16.size inb).set := by
      rw [View.setOn_univ] at hj
      exact (View.set_slice_whole cc0_scratch3 (Rect.unit (s := S64x16) ![n, 0] S1x16.size inb)) ▸ hj
    have h0 : n ≤ (j 0).val ∧ (j 0).val < n + 1 := Rect.mem_set_unit.mp hj' 0
    omega

/-- A row of the part stored. -/
theorem wp_put_part {A : Type} (a : S64x16.Idx → Elt F .f32) {n : ℕ} {off : Fin 2 → ℕ} (ho : off = ![n, 0]) (inb : ∀ a, off a + S1x16.size a ≤ S64x16.size a)
    {w : S1x16.Idx → Elt F .f32}
    {hx : (sO.access (Rect.unit (s := S64x16) off S1x16.size inb)).Stores Finset.univ}
    {hm : (Finset.univ : Finset S1x16.Idx) = Finset.univ ∨ ∀ a, (Rect.unit (s := S64x16) off S1x16.size inb).stride a = 1}
    {k : PUnit → Prog (TpuEff nD τ sig (Elt F) Λ₀ (thrV d L).2) A} {Q : A → sProp 𝕄} :
    ((thrV d L).loc cc0_scratch3 ↦{fullShare} a : sProp 𝕄)
      ⊢ iprop((((thrV d L).loc cc0_scratch3 ↦{fullShare} (fun j => if (j 0).val = n then w (col16 (j 1).val) else a j : S64x16.Idx → Elt F .f32))
          -∗ wp frame (wpE (defs₀ (F := F)) 𝒱₀ (thrV d L) none) Set.univ (k ⟨⟩) Q)
        -∗ wp frame (wpE (defs₀ (F := F)) 𝒱₀ (thrV d L) none) Set.univ
            (.op (.store sO (Rect.unit (s := S64x16) off S1x16.size inb) w Finset.univ hx hm) k) Q) := by
  refine Entails.trans (wp_store (defs := defs₀ (F := F)) 𝒱₀ (thrV d L) none Set.univ (m := sO) (r := Rect.unit (s := S64x16) off S1x16.size inb) (w := w) (Mk := Finset.univ)
    (hx := hx) (hm := hm) (k := k) (Q := Q) (S := Finset.univ) (f := a) (Finset.subset_univ _)) (wand_mono_left (wand_mono_left ?_))
  exact Entails.of_eq (congrArg (fun g : S64x16.Idx → Elt F .f32 => ((thrV d L).loc cc0_scratch3 ↦{fullShare} g : sProp 𝕄)) (funext (part_write a w ho inb)))

/-- What the summing loop keeps: the accumulator, and the part's first `n` rows. -/
def sumInv (a : S16384.Idx → Elt F .f32) (n : ℕ) : sProp 𝕄 :=
  iprop(((thrV d L).loc cc0_scratch2 ↦{fullShare} a)
    ∗ ∃ o : S64x16.Idx → Elt F .f32, ⌜∀ j, (j 0).val < n → o j = partAt a j⌝ ∗ ((thrV d L).loc cc0_scratch3 ↦{fullShare} o))

theorem wp_sum_trip (a : S16384.Idx → Elt F .f32) (v2 : BitVec 32) (v20 : IVec S16 32) (v21 : FVec F S16 .f32) (k : Fin k0_t6_loop.trips) :
    (sumInv d L a k.val : sProp 𝕄) ⊢ wp frame (wpE (defs₀ (F := F)) 𝒱₀ (thrV d L) none) Set.univ
      (k0_t6_body (F := F) L yV (Memref.isWhole_whole _) pV (Memref.isWhole_whole _) oV (Memref.isWhole_whole _) sY (Memref.isWhole_whole _) sP (Memref.isWhole_whole _)
      sA (Memref.isWhole_whole _) sO (Memref.isWhole_whole _) cc0_scratch4 cc0_scratch5 cc0_scoped0 v2 v20 v21 k ()) fun _ => sumInv d L a (k.val + 1) := by
  unfold k0_t6_body sumInv
  simp only [k0_part1_eq_skeleton]
  unfold k0_part1_skel
  simp only [Prog.lift, Prog.bind_op, Prog.bind_ret, Prog.pure_eq_ret]
  iintro ⟨HA, %o, %ho, HO⟩
  iapply (wp_row d L a (k0_off7_eq k) (k0_off7_inb k)) $$ HA; iintro HA
  iapply (wp_row d L a (off8_at k 0) (k0_off8_inb k 0)) $$ HA; iintro HA
  iapply (wp_row d L a (off8_at k 1) (k0_off8_inb k 1)) $$ HA; iintro HA
  iapply (wp_row d L a (off8_at k 2) (k0_off8_inb k 2)) $$ HA; iintro HA
  iapply (wp_row d L a (off8_at k 3) (k0_off8_inb k 3)) $$ HA; iintro HA
  iapply (wp_row d L a (off8_at k 4) (k0_off8_inb k 4)) $$ HA; iintro HA
  iapply (wp_row d L a (off8_at k 5) (k0_off8_inb k 5)) $$ HA; iintro HA
  iapply (wp_row d L a (off8_at k 6) (k0_off8_inb k 6)) $$ HA; iintro HA
  iapply (wp_row d L a (off8_at k 7) (k0_off8_inb k 7)) $$ HA; iintro HA
  iapply (wp_row d L a (off8_at k 8) (k0_off8_inb k 8)) $$ HA; iintro HA
  iapply (wp_row d L a (off8_at k 9) (k0_off8_inb k 9)) $$ HA; iintro HA
  iapply (wp_row d L a (off8_at k 10) (k0_off8_inb k 10)) $$ HA; iintro HA
  iapply (wp_row d L a (off8_at k 11) (k0_off8_inb k 11)) $$ HA; iintro HA
  iapply (wp_row d L a (off8_at k 12) (k0_off8_inb k 12)) $$ HA; iintro HA
  iapply (wp_row d L a (off8_at k 13) (k0_off8_inb k 13)) $$ HA; iintro HA
  iapply (wp_row d L a (off8_at k 14) (k0_off8_inb k 14)) $$ HA; iintro HA
  iapply (wp_load 𝒱₀ (thrV d L) none Set.univ (m := sO) (S := Finset.univ) (Finset.subset_univ _)) $$ HO
  iintro HO
  iapply (wp_put_part d L o (k0_off9_eq k) (k0_off9_inb k)) $$ HO
  iintro HO
  sl_step
  isplitl [HA]; · iexact HA
  iexists _
  isplitr
  swap; · iexact HO
  ipureintro
  intro j hj
  dsimp only
  split_ifs with h
  · rw [LaneScatter.cast_row_apply]
    unfold partAt partRow
    rw [h]
    refine congrArg _ ?_
    funext b
    match b with
    | 0 => rfl
  · exact ho j (by omega)

/-- The summing loop: the part of the accumulator, at any continuation. -/
theorem wp_sum {A : Type} (a : S16384.Idx → Elt F .f32) (o : S64x16.Idx → Elt F .f32) (v2 : BitVec 32) (v20 : IVec S16 32) (v21 : FVec F S16 .f32)
    {kk : Unit → Prog (TpuEff nD τ sig (Elt F) Λ₀ (.scVector ((L 0).castLE hcore0) ((L 1).castLE hsub0))) A} {Q : A → sProp 𝕄} :
    iprop(((thrV d L).loc cc0_scratch2 ↦{fullShare} a) ∗ ((thrV d L).loc cc0_scratch3 ↦{fullShare} o) : sProp 𝕄)
      ⊢ iprop((iprop(((thrV d L).loc cc0_scratch2 ↦{fullShare} a) ∗ ((thrV d L).loc cc0_scratch3 ↦{fullShare} partAt a))
          -∗ wp frame (wpE (defs₀ (F := F)) 𝒱₀ (thrV d L) none) Set.univ (kk ()) Q)
        -∗ wp frame (wpE (defs₀ (F := F)) 𝒱₀ (thrV d L) none) Set.univ
            (Scf.Loop.for k0_t6_loop k0_t6_ok () (k0_t6_body (F := F) L yV (Memref.isWhole_whole _) pV (Memref.isWhole_whole _) oV (Memref.isWhole_whole _) sY (Memref.isWhole_whole _) sP (Memref.isWhole_whole _)
      sA (Memref.isWhole_whole _) sO (Memref.isWhole_whole _) cc0_scratch4 cc0_scratch5 cc0_scoped0 v2 v20 v21) >>= kk) Q) := by
  iintro ⟨HA, HO⟩ HK
  iapply (Scf.wp_for_bind frame (wpE (defs₀ (F := F)) 𝒱₀ (thrV d L) none) Set.univ _ _ _ k0_t6_ok () _
    (fun n _ => sumInv d L a n) (fun k _ => wp_sum_trip d L a v2 v20 v21 k)) $$ [HA HO]
  · unfold sumInv
    isplitl [HA]; · iexact HA
    iexists o
    isplitr; · ipureintro; intro j hj; exact absurd hj (by omega)
    iexact HO
  iintro %acc HI
  iapply HK
  unfold sumInv
  icases HI with ⟨HA, %b, %hb, HO⟩
  isplitl [HA]; · iexact HA
  rw [show partAt a = b from funext fun j => (hb j (show (j 0).val < 64 from (j 0).isLt)).symm]
  iexact HO

end Wp

end Cert.Proof.KernelIdeal

end
-- ==== Proof.Copies.lean ====
/-
  The copies of a tile: two pieces of the label arrays fetched together into a slot on one semaphore, started and waited for
  as a pair, for any piece and either slot.
-/
module

public import proofs.«01_k».proof.Proof.Trips
public import Idealize.ShloMosaic.Lib.Ring

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The pieces of the label arrays -/

/-- The two label arrays and the parts, as locations of device `d`. -/
abbrev yLoc (d : Dev nD) : Loc nD τ sig := (SparseCore.T d).loc main_v0
abbrev pLoc (d : Dev nD) : Loc nD τ sig := (SparseCore.T d).loc main_v1
abbrev oLoc (d : Dev nD) : Loc nD τ sig := (SparseCore.T d).loc main_v2

/-- The 8192 pixels from `n` on. -/
def span (n : ℕ) : Finset S1048576.Idx := Finset.univ.filter fun j => n ≤ (j 0).val ∧ (j 0).val < n + 8192
theorem mem_span {n : ℕ} {j : S1048576.Idx} : j ∈ span n ↔ n ≤ (j 0).val ∧ (j 0).val < n + 8192 := by simp [span]

abbrev spanR (off : Fin 1 → ℕ) (inb : ∀ a, off a + S8192.size a ≤ S1048576.size a) : Rect S1048576 := Rect.unit (s := S1048576) off S8192.size inb
abbrev yPart (off : Fin 1 → ℕ) (inb : ∀ a, off a + S8192.size a ≤ S1048576.size a) : Memref sig .scVector .hbm S8192 .i32 := yV.slice (spanR off inb) (fun _ => rfl)
abbrev pPart (off : Fin 1 → ℕ) (inb : ∀ a, off a + S8192.size a ≤ S1048576.size a) : Memref sig .scVector .hbm S8192 .i32 := pV.slice (spanR off inb) (fun _ => rfl)

theorem spanR_set {n : ℕ} {off : Fin 1 → ℕ} (ho : off = ![n]) (inb : ∀ a, off a + S8192.size a ≤ S1048576.size a) : (spanR off inb).set = span n := by
  subst ho
  ext j
  rw [Rect.mem_set_unit, mem_span]
  constructor
  · intro h; exact h 0
  · intro h a
    match a with
    | 0 => exact h
theorem yPart_set {n : ℕ} {off : Fin 1 → ℕ} (ho : off = ![n]) (inb : ∀ a, off a + S8192.size a ≤ S1048576.size a) : (yPart off inb).view.set = span n :=
  (View.set_slice_whole _ _).trans (spanR_set ho inb)
theorem pPart_set {n : ℕ} {off : Fin 1 → ℕ} (ho : off = ![n]) (inb : ∀ a, off a + S8192.size a ≤ S1048576.size a) : (pPart off inb).view.set = span n :=
  (View.set_slice_whole _ _).trans (spanR_set ho inb)

/-- The element of a piece's source at `x` is the pixel `x` past its first. -/
theorem spanR_emb {n : ℕ} {off : Fin 1 → ℕ} (ho : off = ![n]) (inb : ∀ a, off a + S8192.size a ≤ S1048576.size a) (x : S8192.Idx) :
    (spanR off inb).emb x = px (n + (x 0).val) := by
  subst ho
  have hn : n + 8192 ≤ 1048576 := inb 0
  have hx : (x 0).val < 8192 := (x 0).isLt
  funext a
  match a with
  | 0 =>
    refine Fin.ext ((ValueKit.rect_emb_unit_val (s := S1048576) ![n] S8192.size inb x 0).trans ?_)
    show n + (x 0).val = (n + (x 0).val) % 1048576
    omega

/-- The element of a slot at `x` is column `x` of its row. -/
theorem slotR_emb (s : Fin 2) (x : S8192.Idx) :
    (((slotR s).emb (Shape.reshapeEquiv squeezes_S1x8192_S8192.numel_eq x) : S2x8192.Idx) 1).val = (x 0).val := by
  rw [show Shape.reshapeEquiv squeezes_S1x8192_S8192.numel_eq x = (Fin.cons ⟨0, Nat.one_pos⟩ x : S1x8192.Idx) from
    Shape.reshapeEquiv_cons_one _ x, ValueKit.rect_emb_unit_val]
  exact Nat.zero_add _

/-- What a copied piece leaves in its slot, cell by cell. -/
theorem ySlot_landed (y : S1048576.Idx → Elt F .i32) (f : S2x8192.Idx → Elt F .i32) (s : Fin 2) {n : ℕ} {off : Fin 1 → ℕ} (ho : off = ![n])
    (inb : ∀ a, off a + S8192.size a ≤ S1048576.size a) (i : S2x8192.Idx) (hi : i ∈ (ySlot s).view.set) :
    (ySlot s).view.write (Elt F) f (ReadAs.same.apply ((yPart off inb).view.read (Elt F) y)) Finset.univ i = slotFill y n i := by
  obtain ⟨x, -, rfl⟩ := Finset.mem_map.mp hi
  rw [View.write_emb_of_mem _ _ (Finset.mem_univ _)]
  refine (cast_eq _ _).trans ?_
  show y ((spanR off inb).emb x) = y (px (n + (((slotR s).emb (Shape.reshapeEquiv squeezes_S1x8192_S8192.numel_eq x) : S2x8192.Idx) 1).val))
  rw [spanR_emb ho, slotR_emb]
theorem pSlot_landed (y : S1048576.Idx → Elt F .i32) (f : S2x8192.Idx → Elt F .i32) (s : Fin 2) {n : ℕ} {off : Fin 1 → ℕ} (ho : off = ![n])
    (inb : ∀ a, off a + S8192.size a ≤ S1048576.size a) (i : S2x8192.Idx) (hi : i ∈ (pSlot s).view.set) :
    (pSlot s).view.write (Elt F) f (ReadAs.same.apply ((pPart off inb).view.read (Elt F) y)) Finset.univ i = slotFill y n i := by
  obtain ⟨x, -, rfl⟩ := Finset.mem_map.mp hi
  rw [View.write_emb_of_mem _ _ (Finset.mem_univ _)]
  refine (cast_eq _ _).trans ?_
  show y ((spanR off inb).emb x) = y (px (n + (((slotR s).emb (Shape.reshapeEquiv squeezes_S1x8192_S8192.numel_eq x) : S2x8192.Idx) 1).val))
  rw [spanR_emb ho, slotR_emb]

variable [FloatOps F]

section Wp
variable (d : Dev nD) (L : grid0.Coords)

/-! ## A pair of copies -/

/-- The units one copy of a piece credits. -/
def slotN : ℕ := (ySlot 0).view.dmaCredit

theorem slotN_pos : 0 < slotN := by
  have h := View.amount_pos (ySlot 0).view (SemLoc.dma (sig := sig) cc0_scratch4.sem) (show 0 < S8192.numel by decide)
  exact h

/-- A slot of either scratch, filled with the pixels from `n` on, and the pieces copied from. -/
abbrev yFull (y : S1048576.Idx → Elt F .i32) (n : ℕ) (s : Fin 2) : sProp 𝕄 := (ySlot s).view.loc (thrV d L) ↦[(ySlot s).view.set]{fullShare} slotFill y n
abbrev pFull (p : S1048576.Idx → Elt F .i32) (n : ℕ) (s : Fin 2) : sProp 𝕄 := (pSlot s).view.loc (thrV d L) ↦[(pSlot s).view.set]{fullShare} slotFill p n
abbrev yAny (s : Fin 2) : sProp 𝕄 := iprop(∃ f, (ySlot s).view.loc (thrV d L) ↦[(ySlot s).view.set]{fullShare} f)
abbrev pAny (s : Fin 2) : sProp 𝕄 := iprop(∃ f, (pSlot s).view.loc (thrV d L) ↦[(pSlot s).view.set]{fullShare} f)
abbrev ySpan (d : Dev nD) (y : S1048576.Idx → Elt F .i32) (n : ℕ) : sProp 𝕄 := yLoc d ↦[span n]{fullShare} y
abbrev pSpan (d : Dev nD) (p : S1048576.Idx → Elt F .i32) (n : ℕ) : sProp 𝕄 := pLoc d ↦[span n]{fullShare} p

/-- What the two copies of a piece deliver: each slot filled, each piece back. -/
def deliv (y p : S1048576.Idx → Elt F .i32) (n : ℕ) (s : Fin 2) : Fin 2 → sProp 𝕄
  | 0 => iprop(yFull d L y n s ∗ ySpan d y n)
  | 1 => iprop(pFull d L p n s ∗ pSpan d p n)

instance deliv_storable (y p : S1048576.Idx → Elt F .i32) (n : ℕ) (s : Fin 2) (t : Fin 2) : Storable (upEmb : UEmb _ 𝕄) (deliv d L y p n s t) :=
  match t with
  | 0 => (inferInstance : Storable (upEmb : UEmb _ 𝕄) iprop(yFull d L y n s ∗ ySpan d y n))
  | 1 => (inferInstance : Storable (upEmb : UEmb _ 𝕄) iprop(pFull d L p n s ∗ pSpan d p n))

/-- The two copies of the piece at `n` into slot `s` on their way. -/
def flying (y p : S1048576.Idx → Elt F .i32) (n : ℕ) (s : Fin 2) (sm : DmaSem sig) : sProp 𝕄 :=
  Transfers.Batch (countersEmb (U := UU)) (thrV d L) (.dma sm) (default : HIx 1) slotN (deliv d L y p n s) 2 0

/-- Starting them. -/
theorem wp_issue {A : Type} (y p : S1048576.Idx → Elt F .i32) (s : Fin 2) (sm : DmaSem sig) {n : ℕ} {off : Fin 1 → ℕ} (ho : off = ![n])
    (inb : ∀ a, off a + S8192.size a ≤ S1048576.size a)
    {h₁ : (yPart off inb).view.WordExact} {h₂ : (ySlot s).view.WordExact} {h₃ : (DmaTarget.here (ySlot s) : DmaTarget nD τ sig (thrV d L).2 .vmem S8192 .i32).Typed .hbm (.dma sm)}
    {h₄ : (pPart off inb).view.WordExact} {h₅ : (pSlot s).view.WordExact} {h₆ : (DmaTarget.here (pSlot s) : DmaTarget nD τ sig (thrV d L).2 .vmem S8192 .i32).Typed .hbm (.dma sm)}
    {k : PUnit → Prog (TpuEff nD τ sig (Elt F) Λ₀ (thrV d L).2) A} {Q : A → sProp 𝕄} :
    iprop(ySpan d y n ∗ pSpan d p n ∗ yAny d L s ∗ pAny d L s ∗ semVal ((thrV d L), SemLoc.dma sm) 0)
      ⊢ iprop((flying d L y p n s sm -∗ wp frame (wpE (defs₀ (F := F)) 𝒱₀ (thrV d L) none) Set.univ (k ⟨⟩) Q)
        -∗ wp frame (wpE (defs₀ (F := F)) 𝒱₀ (thrV d L) none) Set.univ
            (.op (.enqueueDma (yPart off inb) (.here (ySlot s)) (.dma sm) h₁ h₂ h₃) fun _ =>
              .op (.enqueueDma (pPart off inb) (.here (pSlot s)) (.dma sm) h₄ h₅ h₆) k) Q) := by
  iintro ⟨HY, HP, ⟨%fy, HSY⟩, ⟨%fp, HSP⟩, Hsem⟩ HK
  imod (Transfers.batch_alloc' (Lvl := ℕ) (countersEmb (U := UU)) (thrV d L) (default : HIx 1) slotN (deliv d L y p n s) (sm := .dma sm) (E := Set.univ)) $$ Hsem with HB
  have hdy : iprop(((ySlot s).view.loc (thrV d L) ↦[(ySlot s).view.set]{fullShare}
        ((ySlot s).view.write (Elt F) fy (ReadAs.same.apply ((yPart off inb).view.read (Elt F) y)) Finset.univ))
      ∗ ((yPart off inb).view.loc (thrV d L) ↦[(yPart off inb).view.set]{fullShare} y)) ⊢ (deliv d L y p n s 0 : sProp 𝕄) := by
    rw [pointsTo_congr (g := slotFill y n) (ySlot_landed y fy s ho inb), yPart_set ho inb]; exact .rfl
  have hdp : iprop(((pSlot s).view.loc (thrV d L) ↦[(pSlot s).view.set]{fullShare}
        ((pSlot s).view.write (Elt F) fp (ReadAs.same.apply ((pPart off inb).view.read (Elt F) p)) Finset.univ))
      ∗ ((pPart off inb).view.loc (thrV d L) ↦[(pPart off inb).view.set]{fullShare} p)) ⊢ (deliv d L y p n s 1 : sProp 𝕄) := by
    rw [pointsTo_congr (g := slotFill p n) (pSlot_landed p fp s ho inb), pPart_set ho inb]; exact .rfl
  ihave HY := (Entails.of_eq (show (ySpan d y n : sProp 𝕄) = ((yPart off inb).view.loc (thrV d L) ↦[(yPart off inb).view.set]{fullShare} y) by
    rw [yPart_set ho inb])) $$ HY
  ihave HP := (Entails.of_eq (show (pSpan d p n : sProp 𝕄) = ((pPart off inb).view.loc (thrV d L) ↦[(pPart off inb).view.set]{fullShare} p) by
    rw [pPart_set ho inb])) $$ HP
  iapply (Transfers.wp_dmaBatch (countersEmb (U := UU)) 𝒱₀ (thrV d L) none (default : HIx 1) slotN rfl (Finset.Subset.refl _) (show 0 < 2 by decide) (Nat.zero_le _) hdy) $$ [HY HSY HB]
  · isplitl [HY]; · iexact HY
    isplitl [HSY]; · iexact HSY
    iexact HB
  iintro HB
  iapply (Transfers.wp_dmaBatch (countersEmb (U := UU)) 𝒱₀ (thrV d L) none (default : HIx 1) slotN rfl (Finset.Subset.refl _) (show 1 < 2 by decide) (Nat.zero_le _) hdp) $$ [HP HSP HB]
  · isplitl [HP]; · iexact HP
    isplitl [HSP]; · iexact HSP
    iexact HB
  iexact HK

/-- Waiting for them. -/
theorem wp_drain {A : Type} (y p : S1048576.Idx → Elt F .i32) (n : ℕ) (s : Fin 2) (sm : DmaSem sig) (O : CellTallies nD τ sig (HIx 1)) (W : Waits sig (HIx 1))
    {off : Fin 1 → ℕ} {inb : ∀ a, off a + S8192.size a ≤ S1048576.size a}
    {h₁ : (yPart off inb).view.WordExact} {h₂ : (ySlot s).view.WordExact} {h₄ : (pPart off inb).view.WordExact} {h₅ : (pSlot s).view.WordExact}
    {k : PUnit → Prog (TpuEff nD τ sig (Elt F) Λ₀ (thrV d L).2) A} {Q : A → sProp 𝕄} :
    iprop(flying d L y p n s sm ∗ owes (thrV d L) O W ∗ Transfers.MayWaits (thrV d L) (default : HIx 1) O)
      ⊢ iprop((iprop(yFull d L y n s ∗ pFull d L p n s ∗ ySpan d y n ∗ pSpan d p n ∗ semVal ((thrV d L), SemLoc.dma sm) 0
            ∗ owes (thrV d L) O (insert (SemLoc.dma sm, (default : HIx 1)) W))
          -∗ wp frame (wpE (defs₀ (F := F)) 𝒱₀ (thrV d L) none) Set.univ (k ⟨⟩) Q)
        -∗ wp frame (wpE (defs₀ (F := F)) 𝒱₀ (thrV d L) none) Set.univ
            (.op (.waitDma2 sm (yPart off inb) (ySlot s) h₁ h₂) fun _ => .op (.waitDma2 sm (pPart off inb) (pSlot s) h₄ h₅) k) Q) := by
  unfold flying
  iintro ⟨HB, HO, #Hmw⟩ HK
  iapply (Transfers.wp_waitBatchO (countersEmb (U := UU)) 𝒱₀ (thrV d L) none (default : HIx 1) (srcw := yPart off inb) (dstw := ySlot s) (hsrc := h₁) (hdst := h₂)
    (N := slotN) rfl (D := deliv d L y p n s) (u := 0) (by have := slotN_pos; omega)) $$ [HB HO]
  · isplitl [HB]; · iexact HB
    isplitl [HO]; · iexact HO
    iapply (Transfers.MayWaits.elim (.dma sm)); iexact Hmw
  iintro ⟨HB, HO⟩
  iapply (Transfers.wp_waitBatchLastO (countersEmb (U := UU)) 𝒱₀ (thrV d L) none (default : HIx 1) (srcw := pPart off inb) (dstw := pSlot s) (hsrc := h₄) (hdst := h₅)
    (N := slotN) rfl slotN_pos (D := deliv d L y p n s) (u := 0 + slotN) (by omega)) $$ [HB HO]
  · isplitl [HB]; · iexact HB
    isplitl [HO]; · iexact HO
    iapply (Transfers.MayWaits.elim (.dma sm)); iexact Hmw
  rw [show bigSep Finset.univ (deliv d L y p n s) = iprop((yFull d L y n s ∗ ySpan d y n) ∗ (pFull d L p n s ∗ pSpan d p n)) from Ring.bigSep_fin2 _,
    Finset.insert_idem]
  iintro ⟨⟨⟨HSY, HY⟩, HSP, HP⟩, Hsem, HO⟩
  iapply HK
  isplitl [HSY]; · iexact HSY
  isplitl [HSP]; · iexact HSP
  isplitl [HY]; · iexact HY
  isplitl [HP]; · iexact HP
  isplitl [Hsem]; · iexact Hsem
  iexact HO

end Wp

end Cert.Proof.KernelIdeal

end
-- ==== Proof.Pieces.lean ====
/-
  What a tile holds of the arrays: its pixels as four pieces, its scratches as two slots, its row of the parts; and the part
  written out to that row.
-/
module

public import proofs.«01_k».proof.Proof.Copies
public import Idealize.ShloMosaic.Lib.Ring.AtN

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's share of the arrays -/

/-- The 32768 pixels of worker `w`. -/
def tileSet (w : ℕ) : Finset S1048576.Idx := Finset.univ.filter fun j => (j 0).val / 32768 = w
theorem mem_tileSet {w : ℕ} {j : S1048576.Idx} : j ∈ tileSet w ↔ (j 0).val / 32768 = w := by simp [tileSet]
/-- Row `w` of the parts. -/
def rowSet (w : ℕ) : Finset S32x64x16.Idx := Finset.univ.filter fun j => (j 0).val = w
theorem mem_rowSet {w : ℕ} {j : S32x64x16.Idx} : j ∈ rowSet w ↔ (j 0).val = w := by simp [rowSet]

/-- A tile's pixels are four pieces. -/
theorem tileSet_eq (w : ℕ) : tileSet w = Finset.univ.biUnion fun r : Fin 4 => span (32768 * w + 8192 * r.val) := by
  ext j
  rw [mem_tileSet, Finset.mem_biUnion]
  constructor
  · intro h
    refine ⟨⟨(j 0).val % 32768 / 8192, by omega⟩, Finset.mem_univ _, mem_span.mpr ?_⟩
    show 32768 * w + 8192 * ((j 0).val % 32768 / 8192) ≤ (j 0).val ∧ (j 0).val < 32768 * w + 8192 * ((j 0).val % 32768 / 8192) + 8192
    omega
  · rintro ⟨r, -, h⟩
    have hr := r.isLt
    rw [mem_span] at h
    omega
theorem spans_disjoint (w : ℕ) : ∀ r ∈ (Finset.univ : Finset (Fin 4)), ∀ r' ∈ (Finset.univ : Finset (Fin 4)), r ≠ r' →
    Disjoint (span (32768 * w + 8192 * r.val)) (span (32768 * w + 8192 * r'.val)) := by
  intro r _ r' _ hne
  have h : r.val ≠ r'.val := fun e => hne (Fin.ext e)
  refine Finset.disjoint_left.mpr fun j h₁ h₂ => ?_
  rw [mem_span] at h₁ h₂
  omega

/-- The two slots are the scratch. -/
theorem slots_disjoint : Disjoint (slotR 0).set (slotR 1).set := by
  refine Finset.disjoint_left.mpr fun j h₀ h₁ => ?_
  have a : 0 ≤ (j 0).val ∧ (j 0).val < 0 + 1 := Rect.mem_set_unit.mp h₀ 0
  have b : 1 ≤ (j 0).val ∧ (j 0).val < 1 + 1 := Rect.mem_set_unit.mp h₁ 0
  omega
theorem slots_cover : (slotR 0).set ∪ (slotR 1).set = Finset.univ := by
  ext j
  simp only [Finset.mem_union, Finset.mem_univ, iff_true]
  have h1 : (j 1).val < 8192 := (j 1).isLt
  have h0 : (j 0).val < 2 := (j 0).isLt
  by_cases h : (j 0).val = 0
  · left
    refine Rect.mem_set_unit.mpr fun a => ?_
    match a with
    | 0 => show 0 ≤ (j 0).val ∧ (j 0).val < 0 + 1; omega
    | 1 => show 0 ≤ (j 1).val ∧ (j 1).val < 0 + 8192; omega
  · right
    refine Rect.mem_set_unit.mpr fun a => ?_
    match a with
    | 0 => show 1 ≤ (j 0).val ∧ (j 0).val < 1 + 1; omega
    | 1 => show 0 ≤ (j 1).val ∧ (j 1).val < 0 + 8192; omega

section Pieces
variable (d : Dev nD) (L : grid0.Coords)

theorem y_split (w : ℕ) (y : S1048576.Idx → Elt F .i32) : (yLoc d ↦[tileSet w]{fullShare} y : sProp 𝕄)
    = iprop(ySpan d y (32768 * w + 8192 * 0) ∗ ySpan d y (32768 * w + 8192 * 1) ∗ ySpan d y (32768 * w + 8192 * 2) ∗ ySpan d y (32768 * w + 8192 * 3)) := by
  rw [tileSet_eq]
  exact (pointsTo_biUnion Finset.univ (ℓ := yLoc d) (fun r : Fin 4 => span (32768 * w + 8192 * r.val)) (spans_disjoint w)).trans (Ring.bigSep_fin4 _)
theorem p_split (w : ℕ) (y : S1048576.Idx → Elt F .i32) : (pLoc d ↦[tileSet w]{fullShare} y : sProp 𝕄)
    = iprop(pSpan d y (32768 * w + 8192 * 0) ∗ pSpan d y (32768 * w + 8192 * 1) ∗ pSpan d y (32768 * w + 8192 * 2) ∗ pSpan d y (32768 * w + 8192 * 3)) := by
  rw [tileSet_eq]
  exact (pointsTo_biUnion Finset.univ (ℓ := pLoc d) (fun r : Fin 4 => span (32768 * w + 8192 * r.val)) (spans_disjoint w)).trans (Ring.bigSep_fin4 _)

/-- A scratch whole is its two slots, whatever they hold. -/
theorem y_slots : iprop(∃ f, (thrV d L).loc cc0_scratch0 ↦{fullShare} f : sProp 𝕄) ⊢ iprop(yAny d L 0 ∗ yAny d L 1) := by
  unfold yAny
  rw [ySlot_set, ySlot_set]
  iintro ⟨%f, H⟩
  ihave H := (show ((thrV d L).loc cc0_scratch0 ↦{fullShare} f : sProp 𝕄) ⊢ iprop(((thrV d L).loc cc0_scratch0 ↦[(slotR 0).set]{fullShare} f)
      ∗ ((thrV d L).loc cc0_scratch0 ↦[(slotR 1).set]{fullShare} f)) from
    (Entails.of_eq (by rw [← slots_cover])).trans (pointsTo_union slots_disjoint).1) $$ H
  icases H with ⟨H0, H1⟩
  isplitl [H0]; · iexists f; iexact H0
  iexists f; iexact H1
theorem p_slots : iprop(∃ f, (thrV d L).loc cc0_scratch1 ↦{fullShare} f : sProp 𝕄) ⊢ iprop(pAny d L 0 ∗ pAny d L 1) := by
  unfold pAny
  rw [pSlot_set, pSlot_set]
  iintro ⟨%f, H⟩
  ihave H := (show ((thrV d L).loc cc0_scratch1 ↦{fullShare} f : sProp 𝕄) ⊢ iprop(((thrV d L).loc cc0_scratch1 ↦[(slotR 0).set]{fullShare} f)
      ∗ ((thrV d L).loc cc0_scratch1 ↦[(slotR 1).set]{fullShare} f)) from
    (Entails.of_eq (by rw [← slots_cover])).trans (pointsTo_union slots_disjoint).1) $$ H
  icases H with ⟨H0, H1⟩
  isplitl [H0]; · iexists f; iexact H0
  iexists f; iexact H1
theorem y_whole (f g : S2x8192.Idx → Elt F .i32) : iprop(((ySlot 0).view.loc (thrV d L) ↦[(ySlot 0).view.set]{fullShare} f)
      ∗ ((ySlot 1).view.loc (thrV d L) ↦[(ySlot 1).view.set]{fullShare} g) : sProp 𝕄) ⊢ iprop(∃ f, (thrV d L).loc cc0_scratch0 ↦{fullShare} f) := by
  rw [ySlot_set, ySlot_set]
  iintro H
  ihave H := (pointsTo_join (ℓ := (thrV d L).loc cc0_scratch0) (f := f) (g := g) slots_disjoint) $$ H
  rw [slots_cover]
  iexists _; iexact H
theorem p_whole (f g : S2x8192.Idx → Elt F .i32) : iprop(((pSlot 0).view.loc (thrV d L) ↦[(pSlot 0).view.set]{fullShare} f)
      ∗ ((pSlot 1).view.loc (thrV d L) ↦[(pSlot 1).view.set]{fullShare} g) : sProp 𝕄) ⊢ iprop(∃ f, (thrV d L).loc cc0_scratch1 ↦{fullShare} f) := by
  rw [pSlot_set, pSlot_set]
  iintro H
  ihave H := (pointsTo_join (ℓ := (thrV d L).loc cc0_scratch1) (f := f) (g := g) slots_disjoint) $$ H
  rw [slots_cover]
  iexists _; iexact H

end Pieces

/-! ## The part written out -/

abbrev oRowR (L : grid0.Coords) : Rect S32x64x16 := Rect.unit (s := S32x64x16) (k0_off10 L) S1x64x16.size (k0_off10_inb L)
abbrev oRow (L : grid0.Coords) : Memref sig .scVector .hbm S64x16 .f32 := (oV.slice (oRowR L) (fun _ => rfl)).squeeze S64x16 squeezes_S1x64x16_S64x16

theorem off10_wid (L : grid0.Coords) : k0_off10 L = ![wid L, 0, 0] := k0_off10_eq L

theorem oRow_set (L : grid0.Coords) : (oRow L).view.set = rowSet (wid L) := by
  show ((oV.view.slice (oRowR L)).reshape S64x16 squeezes_S1x64x16_S64x16.numel_eq).set = _
  rw [View.set_reshape]
  refine (View.set_slice_whole _ _).trans ?_
  ext j
  have h1 : (j 1).val < 64 := (j 1).isLt
  have h2 : (j 2).val < 16 := (j 2).isLt
  rw [Rect.mem_set_unit, mem_rowSet, off10_wid]
  constructor
  · intro h
    have h0 : wid L ≤ (j 0).val ∧ (j 0).val < wid L + 1 := h 0
    omega
  · intro h a
    match a with
    | 0 => show wid L ≤ (j 0).val ∧ (j 0).val < wid L + 1; omega
    | 1 => show 0 ≤ (j 1).val ∧ (j 1).val < 0 + 64; omega
    | 2 => show 0 ≤ (j 2).val ∧ (j 2).val < 0 + 16; omega

theorem oRow_emb (L : grid0.Coords) (x : S64x16.Idx) :
    (oRowR L).emb (Shape.reshapeEquiv squeezes_S1x64x16_S64x16.numel_eq x) = fun | 0 => ⟨wid L, wid_lt L⟩ | 1 => x 0 | 2 => x 1 := by
  rw [show Shape.reshapeEquiv squeezes_S1x64x16_S64x16.numel_eq x = (Fin.cons ⟨0, Nat.one_pos⟩ x : S1x64x16.Idx) from
    Shape.reshapeEquiv_cons_one _ x]
  funext a
  refine Fin.ext ((ValueKit.rect_emb_unit_val (s := S32x64x16) (k0_off10 L) S1x64x16.size (k0_off10_inb L) _ a).trans ?_)
  refine (congrArg (· + _) (congrFun (off10_wid L) a)).trans ?_
  match a with
  | 0 => rfl
  | 1 => exact Nat.zero_add _
  | 2 => exact Nat.zero_add _

variable [FloatOps F]

theorem oRow_landed (L : grid0.Coords) (y p : S1048576.Idx → Elt F .i32) (f : S32x64x16.Idx → Elt F .f32) (i : S32x64x16.Idx)
    (hi : i ∈ (oRow L).view.set) :
    (oRow L).view.write (Elt F) f (ReadAs.same.apply (sO.view.read (Elt F) (partAt (accAt y p (32768 * wid L) 2048)))) Finset.univ i = parts y p i := by
  obtain ⟨x, -, rfl⟩ := Finset.mem_map.mp hi
  rw [View.write_emb_of_mem _ _ (Finset.mem_univ _)]
  refine (cast_eq _ _).trans ?_
  show partAt (accAt y p (32768 * wid L) 2048) x = parts y p ((oRowR L).emb (Shape.reshapeEquiv squeezes_S1x64x16_S64x16.numel_eq x))
  rw [oRow_emb]
  refine congrArg (partAt (accAt y p (32768 * wid L) 2048)) (funext fun a => ?_)
  match a with
  | 0 => rfl
  | 1 => rfl

section Wp
variable (d : Dev nD) (L : grid0.Coords)

abbrev oRowPts (d : Dev nD) (w : ℕ) (f : S32x64x16.Idx → Elt F .f32) : sProp 𝕄 := oLoc d ↦[rowSet w]{fullShare} f

/-- What the write-out delivers. -/
def delivO (y p : S1048576.Idx → Elt F .i32) : Fin 1 → sProp 𝕄 := fun _ =>
  iprop(oRowPts d (wid L) (parts y p) ∗ ((thrV d L).loc cc0_scratch3 ↦{fullShare} partAt (accAt y p (32768 * wid L) 2048)))
instance delivO_storable (y p : S1048576.Idx → Elt F .i32) (t : Fin 1) : Storable (upEmb : UEmb _ 𝕄) (delivO d L y p t) := by
  unfold delivO; infer_instance

theorem oN_pos : 0 < (oRow L).view.dmaCredit :=
  View.amount_pos (oRow L).view (SemLoc.dma (sig := sig) cc0_scoped0.sem) (show 0 < S64x16.numel by decide)

/-- The part copied to its row and the copy waited for. -/
theorem wp_writeOut {A : Type} (y p : S1048576.Idx → Elt F .i32) (f : S32x64x16.Idx → Elt F .f32) (sm : DmaSem sig)
    (O : CellTallies nD τ sig (HIx 1)) (W : Waits sig (HIx 1))
    {h₁ h₄ : sO.view.WordExact} {h₂ h₅ : (oRow L).view.WordExact}
    {h₃ : (DmaTarget.here (oRow L) : DmaTarget nD τ sig (thrV d L).2 .hbm S64x16 .f32).Typed .vmem (.dma sm)}
    {k : PUnit → Prog (TpuEff nD τ sig (Elt F) Λ₀ (thrV d L).2) A} {Q : A → sProp 𝕄} :
    iprop(((thrV d L).loc cc0_scratch3 ↦{fullShare} partAt (accAt y p (32768 * wid L) 2048)) ∗ oRowPts d (wid L) f
        ∗ semVal ((thrV d L), SemLoc.dma sm) 0 ∗ owes (thrV d L) O W ∗ Transfers.MayWaits (thrV d L) (default : HIx 1) O)
      ⊢ iprop((iprop(((thrV d L).loc cc0_scratch3 ↦{fullShare} partAt (accAt y p (32768 * wid L) 2048)) ∗ oRowPts d (wid L) (parts y p)
            ∗ semVal ((thrV d L), SemLoc.dma sm) 0 ∗ owes (thrV d L) O (insert (SemLoc.dma sm, (default : HIx 1)) W))
          -∗ wp frame (wpE (defs₀ (F := F)) 𝒱₀ (thrV d L) none) Set.univ (k ⟨⟩) Q)
        -∗ wp frame (wpE (defs₀ (F := F)) 𝒱₀ (thrV d L) none) Set.univ
            (.op (.enqueueDma sO (.here (oRow L)) (.dma sm) h₁ h₂ h₃) fun _ => .op (.waitDma2 sm sO (oRow L) h₄ h₅) k) Q) := by
  iintro ⟨HS, HR, Hsem, HO, #Hmw⟩ HK
  imod (Transfers.batch_alloc' (Lvl := ℕ) (countersEmb (U := UU)) (thrV d L) (default : HIx 1) (oRow L).view.dmaCredit (delivO d L y p) (sm := .dma sm) (E := Set.univ)) $$ Hsem with HB
  have hd : iprop(((oRow L).view.loc (thrV d L) ↦[(oRow L).view.set]{fullShare}
        ((oRow L).view.write (Elt F) f (ReadAs.same.apply (sO.view.read (Elt F) (partAt (accAt y p (32768 * wid L) 2048)))) Finset.univ))
      ∗ (sO.view.loc (thrV d L) ↦[sO.view.set]{fullShare} partAt (accAt y p (32768 * wid L) 2048))) ⊢ (delivO d L y p 0 : sProp 𝕄) := by
    rw [pointsTo_congr (g := parts y p) (oRow_landed L y p f), oRow_set, show sO.view.set = Finset.univ from View.set_whole cc0_scratch3]; exact .rfl
  ihave HR := (Entails.of_eq (show (oRowPts d (wid L) f : sProp 𝕄) = ((oRow L).view.loc (thrV d L) ↦[(oRow L).view.set]{fullShare} f) by
    rw [oRow_set])) $$ HR
  ihave HS := (Entails.of_eq (show ((thrV d L).loc cc0_scratch3 ↦{fullShare} partAt (accAt y p (32768 * wid L) 2048) : sProp 𝕄)
      = (sO.view.loc (thrV d L) ↦[sO.view.set]{fullShare} partAt (accAt y p (32768 * wid L) 2048)) by
    rw [show sO.view.set = Finset.univ from View.set_whole cc0_scratch3])) $$ HS
  iapply (Transfers.wp_dmaBatch (countersEmb (U := UU)) 𝒱₀ (thrV d L) none (default : HIx 1) (oRow L).view.dmaCredit rfl (Finset.Subset.refl _) (show 0 < 1 by decide) (Nat.zero_le _) hd) $$ [HS HR HB]
  · isplitl [HS]; · iexact HS
    isplitl [HR]; · iexact HR
    iexact HB
  iintro HB
  iapply (Transfers.wp_waitBatchLastO (countersEmb (U := UU)) 𝒱₀ (thrV d L) none (default : HIx 1) (srcw := sO) (dstw := oRow L) (hsrc := h₄) (hdst := h₅)
    (N := (oRow L).view.dmaCredit) rfl (oN_pos L) (D := delivO d L y p) (u := 0) (by omega)) $$ [HB HO]
  · isplitl [HB]; · iexact HB
    isplitl [HO]; · iexact HO
    iapply (Transfers.MayWaits.elim (.dma sm)); iexact Hmw
  rw [show bigSep Finset.univ (delivO d L y p) = iprop(oRowPts d (wid L) (parts y p) ∗ ((thrV d L).loc cc0_scratch3 ↦{fullShare} partAt (accAt y p (32768 * wid L) 2048)))
    from bigSep_univ_of_subsingleton 0]
  iintro ⟨⟨HR, HS⟩, Hsem, HO⟩
  iapply HK
  isplitl [HS]; · iexact HS
  isplitl [HR]; · iexact HR
  isplitl [Hsem]; · iexact Hsem
  iexact HO

end Wp

end Cert.Proof.KernelIdeal

end
-- ==== Proof.Tile.lean ====
/-
  The task of a tile, whole: the four pieces of its pixels fetched two at a time, scattered, summed over the lanes and written
  out.
-/
module

public import proofs.«01_k».proof.Proof.Pieces

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid0.Coords)

/-! The four scatter loops run one region. -/

theorem t2_body_eq (v2 : BitVec 32) (v20 : IVec S16 32) (v21 : FVec F S16 .f32) : k0_t2_body (F := F) L yV (Memref.isWhole_whole _) pV (Memref.isWhole_whole _) oV (Memref.isWhole_whole _) sY (Memref.isWhole_whole _) sP (Memref.isWhole_whole _)
      sA (Memref.isWhole_whole _) sO (Memref.isWhole_whole _) cc0_scratch4 cc0_scratch5 cc0_scoped0 v2 v20 v21
    = fun k _ => trip L (k0_off3 k) (k0_off3_inb k) v20 v21 := rfl
theorem t3_body_eq (v2 : BitVec 32) (v20 : IVec S16 32) (v21 : FVec F S16 .f32) : k0_t3_body (F := F) L yV (Memref.isWhole_whole _) pV (Memref.isWhole_whole _) oV (Memref.isWhole_whole _) sY (Memref.isWhole_whole _) sP (Memref.isWhole_whole _)
      sA (Memref.isWhole_whole _) sO (Memref.isWhole_whole _) cc0_scratch4 cc0_scratch5 cc0_scoped0 v2 v20 v21
    = fun k _ => trip L (k0_off4 k) (k0_off4_inb k) v20 v21 := rfl
theorem t4_body_eq (v2 : BitVec 32) (v20 : IVec S16 32) (v21 : FVec F S16 .f32) : k0_t4_body (F := F) L yV (Memref.isWhole_whole _) pV (Memref.isWhole_whole _) oV (Memref.isWhole_whole _) sY (Memref.isWhole_whole _) sP (Memref.isWhole_whole _)
      sA (Memref.isWhole_whole _) sO (Memref.isWhole_whole _) cc0_scratch4 cc0_scratch5 cc0_scoped0 v2 v20 v21
    = fun k _ => trip L (k0_off5 k) (k0_off5_inb k) v20 v21 := rfl
theorem t5_body_eq (v2 : BitVec 32) (v20 : IVec S16 32) (v21 : FVec F S16 .f32) : k0_t5_body (F := F) L yV (Memref.isWhole_whole _) pV (Memref.isWhole_whole _) oV (Memref.isWhole_whole _) sY (Memref.isWhole_whole _) sP (Memref.isWhole_whole _)
      sA (Memref.isWhole_whole _) sO (Memref.isWhole_whole _) cc0_scratch4 cc0_scratch5 cc0_scoped0 v2 v20 v21
    = fun k _ => trip L (k0_off6 k) (k0_off6_inb k) v20 v21 := rfl

/-- The first pixel of the piece `r` of a tile, as the body names it. -/
theorem off1_at (r : Fin 4) : k0_off1 L (BitVec.ofNat 32 (8192 * r.val)) = ![32768 * wid L + 8192 * r.val] := by
  rw [k0_off1_eq]; congr 1; unfold wid; omega

/-- The task on a vector subcore: its row of the parts left at the part of its pixels. -/
theorem tile_run (y p : S1048576.Idx → Elt F .i32) (f : S32x64x16.Idx → Elt F .f32)
    (hc : ∀ n, k0_chk1 (k0_pay5 (F := F) k0_pay3 (lanesAt y n) (lanesAt p n)))
    (O : CellTallies nD τ sig (HIx 1)) (W : Waits sig (HIx 1)) :
    iprop(Transfers.MayWaits (thrV d L) (default : HIx 1) O
        ∗ (yLoc d ↦[tileSet (wid L)]{fullShare} y) ∗ (pLoc d ↦[tileSet (wid L)]{fullShare} p) ∗ oRowPts d (wid L) f
        ∗ (∃ f, (thrV d L).loc cc0_scratch0 ↦{fullShare} f) ∗ (∃ f, (thrV d L).loc cc0_scratch1 ↦{fullShare} f)
        ∗ (∃ f, (thrV d L).loc cc0_scratch2 ↦{fullShare} f) ∗ (∃ f, (thrV d L).loc cc0_scratch3 ↦{fullShare} f)
        ∗ semVal ((thrV d L), SemLoc.dma cc0_scratch4.sem) 0 ∗ semVal ((thrV d L), SemLoc.dma cc0_scratch5.sem) 0
        ∗ semVal ((thrV d L), SemLoc.dma cc0_scoped0.sem) 0 ∗ owes (thrV d L) O W)
      ⊢ wp frame (wpE (defs₀ (F := F)) 𝒱₀ (thrV d L) none) Set.univ
          (cc0__cm_sc_kernel (F := F) L yV (Memref.isWhole_whole _) pV (Memref.isWhole_whole _) oV (Memref.isWhole_whole _) sY (Memref.isWhole_whole _) sP (Memref.isWhole_whole _)
      sA (Memref.isWhole_whole _) sO (Memref.isWhole_whole _) cc0_scratch4 cc0_scratch5 cc0_scoped0)
          fun _ => iprop((yLoc d ↦[tileSet (wid L)]{fullShare} y) ∗ (pLoc d ↦[tileSet (wid L)]{fullShare} p) ∗ oRowPts d (wid L) (parts y p)
            ∗ (∃ f, (thrV d L).loc cc0_scratch0 ↦{fullShare} f) ∗ (∃ f, (thrV d L).loc cc0_scratch1 ↦{fullShare} f)
            ∗ (∃ f, (thrV d L).loc cc0_scratch2 ↦{fullShare} f) ∗ (∃ f, (thrV d L).loc cc0_scratch3 ↦{fullShare} f)
            ∗ semVal ((thrV d L), SemLoc.dma cc0_scratch4.sem) 0 ∗ semVal ((thrV d L), SemLoc.dma cc0_scratch5.sem) 0
            ∗ semVal ((thrV d L), SemLoc.dma cc0_scoped0.sem) 0 ∗ (∃ W', owes (thrV d L) O W') : sProp 𝕄) := by
  simp only [cc0__cm_sc_kernel_eq_skeleton]
  unfold cc0__cm_sc_kernel_skel
  simp only [k0_part2_eq_skeleton, k0_part3_eq_skeleton, k0_part4_eq_skeleton, k0_part5_eq_skeleton]
  unfold k0_part2_skel k0_part3_skel k0_part4_skel k0_part5_skel
  simp only [Prog.lift, Prog.bind_op, Prog.bind_ret, Prog.pure_eq_ret, Prog.bind_assoc, t2_body_eq, t3_body_eq, t4_body_eq, t5_body_eq]
  iintro ⟨#Hmw, HY, HP, HR, HSY, HSP, ⟨%a, HA⟩, ⟨%o, HO3⟩, S4, S5, S0, HO⟩
  ihave HY := (Entails.of_eq (y_split d (wid L) y)) $$ HY
  icases HY with ⟨HY0, HY1, HY2, HY3⟩
  ihave HP := (Entails.of_eq (p_split d (wid L) p)) $$ HP
  icases HP with ⟨HP0, HP1, HP2, HP3⟩
  ihave HSY := (y_slots d L) $$ HSY
  icases HSY with ⟨HSY0, HSY1⟩
  ihave HSP := (p_slots d L) $$ HSP
  icases HSP with ⟨HSP0, HSP1⟩
  iapply (wp_issue d L y p 0 cc0_scratch4.sem (off1_at L 0) (k0_off1_inb L 0)) $$ [HY0 HP0 HSY0 HSP0 S4]
  · isplitl [HY0]; · iexact HY0
    isplitl [HP0]; · iexact HP0
    isplitl [HSY0]; · iexact HSY0
    isplitl [HSP0]; · iexact HSP0
    iexact S4
  iintro B4
  iapply (wp_zero d L y p (32768 * wid L) a) $$ HA
  iintro HA
  iapply (wp_issue d L y p 1 cc0_scratch5.sem (off1_at L 1) (k0_off1_inb L 1)) $$ [HY1 HP1 HSY1 HSP1 S5]
  · isplitl [HY1]; · iexact HY1
    isplitl [HP1]; · iexact HP1
    isplitl [HSY1]; · iexact HSY1
    isplitl [HSP1]; · iexact HSP1
    iexact S5
  iintro B5
  iapply (wp_drain d L y p _ 0 cc0_scratch4.sem O _) $$ [B4 HO]
  · isplitl [B4]; · iexact B4
    isplitl [HO]; · iexact HO
    iexact Hmw
  iintro ⟨HSY0, HSP0, HY0, HP0, S4, HO⟩
  iapply (wp_scatter d L y p (32768 * wid L) 0 0 k0_t2_loop k0_t2_ok rfl k0_off3 k0_off3_eq k0_off3_inb hc) $$ [HSY0 HSP0 HA]
  · unfold scatInv
    isplitl [HSY0]; · iexact HSY0
    isplitl [HSP0]; · iexact HSP0
    iexact HA
  unfold scatInv
  iintro ⟨HSY0, HSP0, HA⟩
  iapply (wp_issue d L y p 0 cc0_scratch4.sem (off1_at L 2) (k0_off1_inb L 2)) $$ [HY2 HP2 HSY0 HSP0 S4]
  · isplitl [HY2]; · iexact HY2
    isplitl [HP2]; · iexact HP2
    isplitl [HSY0]; · iexists _; iexact HSY0
    isplitl [HSP0]; · iexists _; iexact HSP0
    iexact S4
  iintro B4
  iapply (wp_drain d L y p _ 1 cc0_scratch5.sem O _) $$ [B5 HO]
  · isplitl [B5]; · iexact B5
    isplitl [HO]; · iexact HO
    iexact Hmw
  iintro ⟨HSY1, HSP1, HY1, HP1, S5, HO⟩
  iapply (wp_scatter d L y p (32768 * wid L) 1 1 k0_t3_loop k0_t3_ok rfl k0_off4 k0_off4_eq k0_off4_inb hc) $$ [HSY1 HSP1 HA]
  · unfold scatInv
    isplitl [HSY1]; · iexact HSY1
    isplitl [HSP1]; · iexact HSP1
    iexact HA
  unfold scatInv
  iintro ⟨HSY1, HSP1, HA⟩
  iapply (wp_issue d L y p 1 cc0_scratch5.sem (off1_at L 3) (k0_off1_inb L 3)) $$ [HY3 HP3 HSY1 HSP1 S5]
  · isplitl [HY3]; · iexact HY3
    isplitl [HP3]; · iexact HP3
    isplitl [HSY1]; · iexists _; iexact HSY1
    isplitl [HSP1]; · iexists _; iexact HSP1
    iexact S5
  iintro B5
  iapply (wp_drain d L y p _ 0 cc0_scratch4.sem O _) $$ [B4 HO]
  · isplitl [B4]; · iexact B4
    isplitl [HO]; · iexact HO
    iexact Hmw
  iintro ⟨HSY0, HSP0, HY2, HP2, S4, HO⟩
  iapply (wp_scatter d L y p (32768 * wid L) 2 0 k0_t4_loop k0_t4_ok rfl k0_off5 k0_off5_eq k0_off5_inb hc) $$ [HSY0 HSP0 HA]
  · unfold scatInv
    isplitl [HSY0]; · iexact HSY0
    isplitl [HSP0]; · iexact HSP0
    iexact HA
  unfold scatInv
  iintro ⟨HSY0, HSP0, HA⟩
  iapply (wp_drain d L y p _ 1 cc0_scratch5.sem O _) $$ [B5 HO]
  · isplitl [B5]; · iexact B5
    isplitl [HO]; · iexact HO
    iexact Hmw
  iintro ⟨HSY1, HSP1, HY3, HP3, S5, HO⟩
  iapply (wp_scatter d L y p (32768 * wid L) 3 1 k0_t5_loop k0_t5_ok rfl k0_off6 k0_off6_eq k0_off6_inb hc) $$ [HSY1 HSP1 HA]
  · unfold scatInv
    isplitl [HSY1]; · iexact HSY1
    isplitl [HSP1]; · iexact HSP1
    iexact HA
  unfold scatInv
  iintro ⟨HSY1, HSP1, HA⟩
  iapply (wp_sum d L (accAt y p (32768 * wid L) 2048) o) $$ [HA HO3]
  · isplitl [HA]; · iexact HA
    iexact HO3
  iintro ⟨HA, HO3⟩
  iapply (wp_writeOut d L y p f cc0_scoped0.sem O _) $$ [HO3 HR S0 HO]
  · isplitl [HO3]; · iexact HO3
    isplitl [HR]; · iexact HR
    isplitl [S0]; · iexact S0
    isplitl [HO]; · iexact HO
    iexact Hmw
  iintro ⟨HO3, HR, S0, HO⟩
  sl_step
  isplitl [HY0 HY1 HY2 HY3]
  · iapply (Entails.of_eq (y_split d (wid L) y).symm)
    isplitl [HY0]; · iexact HY0
    isplitl [HY1]; · iexact HY1
    isplitl [HY2]; · iexact HY2
    iexact HY3
  isplitl [HP0 HP1 HP2 HP3]
  · iapply (Entails.of_eq (p_split d (wid L) p).symm)
    isplitl [HP0]; · iexact HP0
    isplitl [HP1]; · iexact HP1
    isplitl [HP2]; · iexact HP2
    iexact HP3
  isplitl [HR]; · iexact HR
  isplitl [HSY0 HSY1]
  · iapply (y_whole d L _ _)
    isplitl [HSY0]; · iexact HSY0
    iexact HSY1
  isplitl [HSP0 HSP1]
  · iapply (p_whole d L _ _)
    isplitl [HSP0]; · iexact HSP0
    iexact HSP1
  isplitl [HA]; · iexists _; iexact HA
  isplitl [HO3]; · iexists _; iexact HO3
  isplitl [S4]; · iexact S4
  isplitl [S5]; · iexact S5
  isplitl [S0]; · iexact S0
  iexists _; iexact HO

end Tile

end Cert.Proof.KernelIdeal

end
-- ==== Proof.Launch.lean ====
/-
  The SparseCore launch: what the call carries to its cores and tiles, the tile's obligation met by the tile's run, and the
  three arrays split over the 32 workers and joined again.
-/
module

public import proofs.«01_k».proof.Proof.Tile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the SparseCore call carries -/

abbrev 𝒱 : Variants := 𝒱₀.lift
abbrev v₀ : 𝒱.V := Sum.inl none

section Carried
variable (y p : Dev nD → S1048576.Idx → Elt F .i32) (o : Dev nD → S32x64x16.Idx → Elt F .f32)

/-- What worker `w` holds: its pixels of both label arrays, and its row of the parts at contents `f`. -/
abbrev piece (d : Dev nD) (w : ℕ) (f : S32x64x16.Idx → Elt F .f32) : sProp 𝕄 :=
  iprop((yLoc d ↦[tileSet w]{fullShare} y d) ∗ (pLoc d ↦[tileSet w]{fullShare} p d) ∗ oRowPts d w f)

variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Core `c` is handed its sixteen workers' pieces and hands them back with the parts computed; worker `2 i + c` is tile `i`. -/
def P : (K (F := F)).Pay (nD := nD) (Val := Elt F) (Name := ℕ) (U := UU) where
  st := fun q d c => match q with | 0 => bigSep Finset.univ fun i : Fin ((K (F := F)).nSub 0) => piece y p d (2 * i.val + c.val) (o d)
  dn := fun q d c => match q with | 0 => bigSep Finset.univ fun i : Fin ((K (F := F)).nSub 0) => piece y p d (2 * i.val + c.val) (parts (y d) (p d))
  go := fun q d c i => match q with | 0 => piece y p d (2 * i.val + c.val) (o d)
  td := fun q d c i => match q with | 0 => piece y p d (2 * i.val + c.val) (parts (y d) (p d))
  x := fun _ _ => iprop(emp)

instance P_storable : (P (F := F) y p o).IsStorable where
  st q d c := match q with
    | 0 => (inferInstance : BI.Storable (upEmb : UEmb _ 𝕄) (bigSep Finset.univ fun i : Fin ((K (F := F)).nSub 0) => piece y p d (2 * i.val + c.val) (o d)))
  dn q d c := match q with
    | 0 => (inferInstance : BI.Storable (upEmb : UEmb _ 𝕄)
        (bigSep Finset.univ fun i : Fin ((K (F := F)).nSub 0) => piece y p d (2 * i.val + c.val) (parts (y d) (p d))))
  go q d c i := match q with | 0 => (inferInstance : BI.Storable (upEmb : UEmb _ 𝕄) (piece y p d (2 * i.val + c.val) (o d)))
  td q d c i := match q with | 0 => (inferInstance : BI.Storable (upEmb : UEmb _ 𝕄) (piece y p d (2 * i.val + c.val) (parts (y d) (p d))))

theorem vecSplit : (K (F := F)).VecSplit' (P y p o) 0 := by
  intro d c
  show (bigSep Finset.univ fun i : Fin ((K (F := F)).nSub 0) => piece y p d (2 * i.val + c.val) (o d)) ⊢ |={Set.univ}=> iprop(
      (bigSep Finset.univ fun i : Fin ((K (F := F)).nSub 0) => piece y p d (2 * i.val + c.val) (o d))
      ∗ ((bigSep Finset.univ fun i : Fin ((K (F := F)).nSub 0) => piece y p d (2 * i.val + c.val) (parts (y d) (p d)))
          -∗ bigSep Finset.univ fun i : Fin ((K (F := F)).nSub 0) => piece y p d (2 * i.val + c.val) (parts (y d) (p d))))
  iintro H; imodintro
  isplitl [H]; · iexact H
  iintro H; iexact H

end Carried

/-! ## A tile's own semaphores and buffers -/

section Own
variable (d : Dev nD) (L : grid0.Coords)

abbrev c4cell : GSem nD τ sig := (thrV d L, .dma cc0_scratch4.sem)
abbrev c5cell : GSem nD τ sig := (thrV d L, .dma cc0_scratch5.sem)
abbrev c0cell : GSem nD τ sig := (thrV d L, .dma cc0_scoped0.sem)

theorem ownSems0_V :
    (ownSems0 (thrV d L) : sProp 𝕄)
      = iprop(semVal (c4cell d L) 0 ∗ semVal (c5cell d L) 0 ∗ semVal (c0cell d L) 0
          ∗ bigSep ((((ownCells (thrV d L)).erase (c4cell d L)).erase (c5cell d L)).erase (c0cell d L)) fun g => semVal g 0) := by
  unfold SparseCore.Cfg.ownSems0
  rw [SparseCore.bigSep_erase' ((mem_ownCells (g := c4cell d L)).mpr ⟨rfl, by
      show (SemLoc.dma cc0_scratch4.sem : SemLoc sig).isScoped .scVector = true; decide⟩),
    SparseCore.bigSep_erase' (Finset.mem_erase.mpr ⟨by simp [c4cell, c5cell]; decide, (mem_ownCells (g := c5cell d L)).mpr ⟨rfl, by
      show (SemLoc.dma cc0_scratch5.sem : SemLoc sig).isScoped .scVector = true; decide⟩⟩),
    SparseCore.bigSep_erase' (Finset.mem_erase.mpr ⟨by simp [c5cell, c0cell]; decide, Finset.mem_erase.mpr ⟨by simp [c4cell, c0cell]; decide,
      (mem_ownCells (g := c0cell d L)).mpr ⟨rfl, by show (SemLoc.dma cc0_scoped0.sem : SemLoc sig).isScoped .scVector = true; decide⟩⟩⟩)]

theorem own_ne {a b : Ref sig .scVector} (h : b ≠ a) : (Proc.scVector (cV L) (jV L)).devRef b ≠ (Proc.scVector (cV L) (jV L)).devRef a :=
  fun e => h (Proc.devRef_injective _ e)

theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨own_ne L (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨own_ne L (show (cc0_scratch2 : Ref sig .scVector) ≠ cc0_scratch1 by decide),
      Finset.mem_erase.mpr ⟨own_ne L (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨own_ne L (show (cc0_scratch3 : Ref sig .scVector) ≠ cc0_scratch2 by decide),
      Finset.mem_erase.mpr ⟨own_ne L (show (cc0_scratch3 : Ref sig .scVector) ≠ cc0_scratch1 by decide),
      Finset.mem_erase.mpr ⟨own_ne L (show (cc0_scratch3 : Ref sig .scVector) ≠ cc0_scratch0 by decide),
      SparseCore.Cfg.mem_ownRefs_of_owner (p := Proc.scVector (cV L) (jV L)) (b := (Proc.scVector (cV L) (jV L)).devRef cc0_scratch3) rfl⟩⟩⟩)]

end Own

/-! ## The tile's obligation -/

section Obligation
variable [FloatOps F]

/-- The task on a vector subcore, in the launch's own terms. -/
theorem tile_body (d : Dev nD) (L : grid0.Coords) (y p : S1048576.Idx → Elt F .i32) (f : S32x64x16.Idx → Elt F .f32)
    (hc : ∀ n, k0_chk1 (k0_pay5 (F := F) k0_pay3 (lanesAt y n) (lanesAt p n)))
    (hF : (K (F := F)).Facts) (O : CellTallies nD τ sig (HIx 1)) (W : Waits sig (HIx 1)) (hO : ∀ g, O g none = 0) :
    iprop(levAts (K (F := F)).L (K (F := F)).lev ∗ emp
        ∗ ((yLoc d ↦[tileSet (wid L)]{fullShare} y) ∗ (pLoc d ↦[tileSet (wid L)]{fullShare} p) ∗ oRowPts d (wid L) f)
        ∗ scopedBufs (thrV d L) ∗ scopedSems0 (thrV d L) ∗ owes (thrV d L) O W)
      ⊢ wp frame (wpE (defs₀ (F := F)) 𝒱₀ (thrV d L) none) Set.univ
          (cc0__cm_sc_kernel (F := F) L yV (Memref.isWhole_whole _) pV (Memref.isWhole_whole _) oV (Memref.isWhole_whole _) sY (Memref.isWhole_whole _) sP (Memref.isWhole_whole _)
      sA (Memref.isWhole_whole _) sO (Memref.isWhole_whole _) cc0_scratch4 cc0_scratch5 cc0_scoped0)
          fun _ => iprop(((yLoc d ↦[tileSet (wid L)]{fullShare} y) ∗ (pLoc d ↦[tileSet (wid L)]{fullShare} p) ∗ oRowPts d (wid L) (parts y p))
            ∗ scopedBufs (thrV d L) ∗ scopedSems0 (thrV d L)
            ∗ ∃ W', ⌜∀ q ∈ W', q ∈ W ∨ q.2 = none ∨ q.2 = some (0 : Fin 1)⌝ ∗ owes (thrV d L) O W') := by
  rw [(K (F := F)).scopedBufs_V hF d (cV L) (jV L), SparseCore.Cfg.scopedSems0_V (Val := Elt F) d (cV L) (jV L), ownSems0_V, ownBufs_V]
  iintro ⟨#Hlv, -, ⟨HY, HP, HR⟩, ⟨H0, H1, H2, H3, Hbufs⟩, ⟨S4, S5, S0, Hsems⟩, HO⟩
  ihave Hmw := (show levAts (K (F := F)).L (K (F := F)).lev ⊢ Transfers.MayWaits (thrV d L) (default : HIx 1) O from
    (K (F := F)).mayWaits_none (thr := thrV d L) hO) $$ Hlv
  iapply (wp_wand_r frame (wpE (defs₀ (F := F)) 𝒱₀ (thrV d L) none) Set.univ)
  isplitl [HY HP HR H0 H1 H2 H3 S4 S5 S0 HO Hmw]
  · iapply (tile_run d L y p f hc O W)
    isplitl [Hmw]; · iexact Hmw
    isplitl [HY]; · iexact HY
    isplitl [HP]; · iexact HP
    isplitl [HR]; · iexact HR
    isplitl [H0]; · iexact H0
    isplitl [H1]; · iexact H1
    isplitl [H2]; · iexact H2
    isplitl [H3]; · iexact H3
    isplitl [S4]; · iexact S4
    isplitl [S5]; · iexact S5
    isplitl [S0]; · iexact S0
    iexact HO
  iintro %_ ⟨HY, HP, HR, H0, H1, H2, H3, S4, S5, S0, ⟨%W', HO⟩⟩
  isplitl [HY HP HR]
  · isplitl [HY]; · iexact HY
    isplitl [HP]; · iexact HP
    iexact HR
  isplitl [H0 H1 H2 H3 Hbufs]
  · isplitl [H0]; · iexact H0
    isplitl [H1]; · iexact H1
    isplitl [H2]; · iexact H2
    isplitl [H3]; · iexact H3
    iexact Hbufs
  isplitl [S4 S5 S0 Hsems]
  · isplitl [S4]; · iexact S4
    isplitl [S5]; · iexact S5
    isplitl [S0]; · iexact S0
    iexact Hsems
  iexists W'; isplitr
  swap; · iexact HO
  ipureintro; intro q _
  rcases q.2 with _ | q
  · exact .inr (.inl rfl)
  · exact .inr (.inr (congrArg some (Subsingleton.elim q 0)))

/-- A task's coordinates from its core and its subcore. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__cm_sc_kernel (F := F) (coordsV c s) yV (Memref.isWhole_whole _) pV (Memref.isWhole_whole _) oV (Memref.isWhole_whole _)
          sY (Memref.isWhole_whole _) sP (Memref.isWhole_whole _) sA (Memref.isWhole_whole _) sO (Memref.isWhole_whole _) cc0_scratch4 cc0_scratch5 cc0_scoped0) ⟨⟩ c s := rfl

theorem tileObl (y p : Dev nD → S1048576.Idx → Elt F .i32) (o : Dev nD → S32x64x16.Idx → Elt F .f32)
    (hc : ∀ d n, k0_chk1 (k0_pay5 (F := F) k0_pay3 (lanesAt (y d) n) (lanesAt (p d) n))) (hF : (K (F := F)).Facts) :
    (K (F := F)).TileObl (D (F := F)) 𝒱 (P y p o) v₀ 0 := by
  intro d c i O W hO _ _
  simp only [show (P y p o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (y d) (p d) (o d) (hc d) hF O W hO

end Obligation

/-! ## The arrays are the 32 workers' pieces -/

section Whole
variable (d : Dev nD)

/-- A core and a subcore of the grid. -/
abbrev Wk : Type := Fin 2 × Fin 16
/-- The worker a core and a subcore name. -/
abbrev wk (a : Wk) : ℕ := 2 * a.2.val + a.1.val

theorem wk_inj {a b : Wk} (h : wk a = wk b) : a = b := by
  have h1 := a.1.isLt; have h2 := b.1.isLt
  have e : 2 * a.2.val + a.1.val = 2 * b.2.val + b.1.val := h
  exact Prod.ext (Fin.ext (by omega)) (Fin.ext (by omega))
theorem wk_surj {n : ℕ} (h : n < 32) : ∃ a : Wk, wk a = n := ⟨(⟨n % 2, by omega⟩, ⟨n / 2, by omega⟩), by show 2 * (n / 2) + n % 2 = n; omega⟩

theorem tiles_disjoint : ∀ a ∈ (Finset.univ : Finset Wk), ∀ b ∈ (Finset.univ : Finset Wk), a ≠ b → Disjoint (tileSet (wk a)) (tileSet (wk b)) := by
  intro a _ b _ hne
  refine Finset.disjoint_left.mpr fun j h₁ h₂ => hne (wk_inj ?_)
  rw [mem_tileSet] at h₁ h₂
  exact h₁.symm.trans h₂
theorem tiles_cover : (Finset.univ : Finset Wk).biUnion (fun a => tileSet (wk a)) = Finset.univ := by
  ext j
  have hj : (j 0).val < 1048576 := (j 0).isLt
  obtain ⟨a, ha⟩ := wk_surj (n := (j 0).val / 32768) (by omega)
  simp only [Finset.mem_biUnion, Finset.mem_univ, true_and, iff_true]
  exact ⟨a, mem_tileSet.mpr ha.symm⟩
theorem rows_disjoint : ∀ a ∈ (Finset.univ : Finset Wk), ∀ b ∈ (Finset.univ : Finset Wk), a ≠ b → Disjoint (rowSet (wk a)) (rowSet (wk b)) := by
  intro a _ b _ hne
  refine Finset.disjoint_left.mpr fun j h₁ h₂ => hne (wk_inj ?_)
  rw [mem_rowSet] at h₁ h₂
  exact h₁.symm.trans h₂
theorem rows_cover : (Finset.univ : Finset Wk).biUnion (fun a => rowSet (wk a)) = Finset.univ := by
  ext j
  have hj : (j 0).val < 32 := (j 0).isLt
  obtain ⟨a, ha⟩ := wk_surj hj
  simp only [Finset.mem_biUnion, Finset.mem_univ, true_and, iff_true]
  exact ⟨a, mem_rowSet.mpr ha.symm⟩

theorem whole_y (f : S1048576.Idx → Elt F .i32) : (yLoc d ↦{fullShare} f : sProp 𝕄) = bigSep Finset.univ fun a : Wk => yLoc d ↦[tileSet (wk a)]{fullShare} f := by
  rw [← pointsTo_biUnion Finset.univ (ℓ := yLoc d) (fun a : Wk => tileSet (wk a)) tiles_disjoint, tiles_cover]; try rfl
theorem whole_p (f : S1048576.Idx → Elt F .i32) : (pLoc d ↦{fullShare} f : sProp 𝕄) = bigSep Finset.univ fun a : Wk => pLoc d ↦[tileSet (wk a)]{fullShare} f := by
  rw [← pointsTo_biUnion Finset.univ (ℓ := pLoc d) (fun a : Wk => tileSet (wk a)) tiles_disjoint, tiles_cover]; try rfl
theorem whole_o (f : S32x64x16.Idx → Elt F .f32) : (oLoc d ↦{fullShare} f : sProp 𝕄) = bigSep Finset.univ fun a : Wk => oRowPts d (wk a) f := by
  rw [← pointsTo_biUnion Finset.univ (ℓ := oLoc d) (fun a : Wk => rowSet (wk a)) rows_disjoint, rows_cover]; try rfl

/-- The three arrays whole are the pieces of the two cores' sixteen workers. -/
theorem pieces_whole (y p : Dev nD → S1048576.Idx → Elt F .i32) (f : S32x64x16.Idx → Elt F .f32) :
    (bigSep Finset.univ fun c : Fin 2 => bigSep Finset.univ fun i : Fin 16 => piece y p d (2 * i.val + c.val) f : sProp 𝕄)
      = iprop((yLoc d ↦{fullShare} y d) ∗ (pLoc d ↦{fullShare} p d) ∗ oLoc d ↦{fullShare} f) := by
  rw [whole_y, whole_p, whole_o, ← bigSep_sep', ← bigSep_sep', bigSep_univ_prod]

variable [FloatOps F]

theorem st0_eq (y p : Dev nD → S1048576.Idx → Elt F .i32) (o : Dev nD → S32x64x16.Idx → Elt F .f32) :
    (bigSep Finset.univ fun c : Fin ((K (F := F)).nCore 0) => (P y p o).st 0 d c)
      = iprop((yLoc d ↦{fullShare} y d) ∗ (pLoc d ↦{fullShare} p d) ∗ oLoc d ↦{fullShare} o d) := pieces_whole d y p (o d)
theorem dn0_eq (y p : Dev nD → S1048576.Idx → Elt F .i32) (o : Dev nD → S32x64x16.Idx → Elt F .f32) :
    (bigSep Finset.univ fun c : Fin ((K (F := F)).nCore 0) => (P y p o).dn 0 d c)
      = iprop((yLoc d ↦{fullShare} y d) ∗ (pLoc d ↦{fullShare} p d) ∗ oLoc d ↦{fullShare} parts (y d) (p d)) := pieces_whole d y p _

end Whole

end Cert.Proof.KernelIdeal

end
-- ==== Proof.Region.lean ====
/-
  The TensorCore call: the kernel run whole on its three staging buffers, the proof data of its one grid point, and the
  region it makes on the TensorCore's thread.
-/
module

public import proofs.«01_k».proof.Proof.Launch
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.FrameBody
public import Idealize.ShloMosaic.Lib.VecWindow

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (Dat Cfg Window BodyObligation cellOf)

variable [FloatOps F]

/-- A TensorCore memref's buffer held whole at `f`. -/
abbrev ptT (c : Dev nD) {sp : Space} {S : Shape} {e : EltTy} (M : Memref sig .tc sp S e) (f : Buf (Elt F) (M.view.loc (c.tc : Thread nD τ))) : sProp 𝕄 :=
  M.view.loc (c.tc : Thread nD τ) ↦{fullShare} f

theorem zero3 : (![0, 0, 0] : Fin 3 → ℕ) = fun _ => 0 := by funext a; fin_cases a <;> rfl
theorem zero2 : (![0, 0] : Fin 2 → ℕ) = fun _ => 0 := by funext a; fin_cases a <;> rfl

/-- The TensorCore kernel run whole: from its three staging buffers it stores, over the third, the reduced histogram
    added to the second. -/
theorem combine_run (c : Dev nD) (f0 : S32x32x32.Idx → Elt F .f32) (f1 f2 : S21x21.Idx → Elt F .f32) (Q : PUnit → sProp 𝕄) :
    iprop(ptT c (Memref.whole cc1_stg0_0) f0 ∗ ptT c (Memref.whole cc1_stg1_0) f1 ∗ ptT c (Memref.whole cc1_stg2_0) f2
        ∗ (iprop(ptT c (Memref.whole cc1_stg0_0) f0 ∗ ptT c (Memref.whole cc1_stg1_0) f1
            ∗ ptT c (Memref.whole cc1_stg2_0) (k1_pay1 (F := F) f0 f1)) -∗ Q ⟨⟩))
      ⊢ wp frame (wpE (defs₀ (F := F)) 𝒱₀ (c.tc : Thread nD τ) none) Set.univ
          (cc1__combine_tc_kernel (F := F) (Memref.whole cc1_stg0_0) (Memref.isWhole_whole _) (Memref.whole cc1_stg1_0) (Memref.isWhole_whole _)
            (Memref.whole cc1_stg2_0) (Memref.isWhole_whole _)) Q := by
  rw [cc1__combine_tc_kernel_eq_skeleton]
  unfold cc1__combine_tc_kernel_skel
  iintro ⟨H0, H1, H2, Hk⟩
  sl_exec!
  sl_step
  iapply Hk
  isplitl [H0]; · iexact H0
  isplitl [H1]; · iexact H1
  have e0 := Memref.readAt_unit_zero (Elt F) cc1_stg0_0 zero3 inb_S32x32x32_S32x32x32_0_0_0 f0
  have e1 := Memref.readAt_unit_zero (Elt F) cc1_stg1_0 zero2 inb_S21x21_S21x21_0_0 f1
  have e2 : (Memref.whole cc1_stg2_0).view.writes (Elt F) (Memref.whole cc1_stg2_0).view.junk (combine_run.sl.H2_1 f0 f1) = k1_pay1 (F := F) f0 f1 := by
    have e3 : (k1_pay1 (F := F) ((Memref.whole cc1_stg0_0).view.readAt (Elt F) (Rect.unit ![0, 0, 0] S32x32x32.size inb_S32x32x32_S32x32x32_0_0_0).toLoadRect f0)
        ((Memref.whole cc1_stg1_0).view.readAt (Elt F) (Rect.unit ![0, 0] S21x21.size inb_S21x21_S21x21_0_0).toLoadRect f1)) = k1_pay1 (F := F) f0 f1 :=
      congrArg₂ (k1_pay1 (F := F)) e0 e1
    rw [← e3]
    exact View.read_writes_full (Val := Elt F) (Memref.whole cc1_stg2_0).view (Memref.whole cc1_stg2_0).view.junk inb_S21x21_S21x21_0_0 _ []
  rw [e2]
  iexact H2

/-! ## The proof data of the one grid point -/

section Region
variable (V3 : Dev nD → S32x32x32.Idx → Elt F .f32) (A2 V4 : Dev nD → S21x21.Idx → Elt F .f32)

/-- What the fetch stages of the two inputs: their arrays, read through their one block. -/
abbrev stg0 (c : Dev nD) : S32x32x32.Idx → Elt F .f32 := ((cfg1.win 0).blk t1_0).view.read (Elt F) (V3 c)
abbrev stg1 (c : Dev nD) : S21x21.Idx → Elt F .f32 := ((cfg1.win 1).blk t1_0).view.read (Elt F) (A2 c)

theorem stg0_eq (c : Dev nD) : stg0 V3 c = V3 c := by
  funext x
  exact congrArg (V3 c) (funext fun a => Fin.ext ((cfg1.win 0).rect_emb_val_of_index_zero t1_0 a (by revert a; decide) x))
theorem stg1_eq (c : Dev nD) : stg1 A2 c = A2 c := by
  funext x
  exact congrArg (A2 c) (funext fun a => Fin.ext ((cfg1.win 1).rect_emb_val_of_index_zero t1_0 a (by revert a; decide) x))

/-- The waits a TensorCore may have recorded once the SparseCore call is over: none above the call's own levels. -/
abbrev Bd (c : Dev nD) : Set (SemLoc sig × HIx 1) := {q | (K (F := F)).lev (SparseCore.T c, q.1) q.2 ≤ 8}

/-- The proof data: the three arrays as they stand, the result's staging buffer left at the kernel's word. -/
def dat (c : Dev nD) : Dat τ (Elt F) (HIx 1) ℕ UU ℕ cfg1 c where
  A w := match w with
    | ⟨0, _⟩ => V3 c
    | ⟨1, _⟩ => A2 c
    | ⟨2, _⟩ => V4 c
  after w _ := match w with
    | ⟨0, _⟩ => stg0 V3 c
    | ⟨1, _⟩ => stg1 A2 c
    | ⟨2, _⟩ => k1_pay1 (F := F) (stg0 V3 c) (stg1 A2 c)
  Φ _ := BI.emp
  q _ := fullShare
  owed _ := 0
  recorded _ := Bd (F := F) c

def adm1 : ∀ p : Fin 1, (pcfgs (F := F) p).Adm := fun p => (cfgs p).toPCfg_adm

theorem before0 (c : Dev nD) (d : (cfg1.win 0).block.Idx → Elt F (cfg1.win 0).elt) : (dat V3 A2 V4 c).before 0 t1_0 d = stg0 V3 c := by
  unfold Dat.before; rw [if_pos (by decide)]; rfl
theorem before1 (c : Dev nD) (d : (cfg1.win 1).block.Idx → Elt F (cfg1.win 1).elt) : (dat V3 A2 V4 c).before 1 t1_0 d = stg1 A2 c := by
  unfold Dat.before; rw [if_pos (by decide)]; rfl

/-- The kernel's obligation at the grid's one point. -/
theorem body_ob (c : Dev nD) : BodyObligation (dat V3 A2 V4 c) (defs₀ (F := F)) 𝒱₀ none Set.univ := fun t => by
  obtain rfl := fin_N1 t
  rw [bigSep_W1, bigSep_W1]
  simp only [owns_whole_eq]
  rw [show (dat V3 A2 V4 c).Φ t1_0.castSucc = BI.emp from rfl, show (dat V3 A2 V4 c).Φ t1_0.succ = BI.emp from rfl,
    show (dat V3 A2 V4 c).owesAt none t1_0.succ = (dat V3 A2 V4 c).owesAt none t1_0.castSucc from rfl]
  iintro ⟨-, Howes, ⟨%d0, %f0, %hf0, H0⟩, ⟨%d1, %f1, %hf1, H1⟩, ⟨%d2, %f2, -, H2⟩⟩
  rw [before0] at hf0
  rw [before1] at hf1
  subst hf0
  subst hf1
  iapply (combine_run c (stg0 V3 c) (stg1 A2 c) f2 _)
  isplitl [H0]; · iexact H0
  isplitl [H1]; · iexact H1
  isplitl [H2]; · iexact H2
  iintro ⟨H0, H1, H2⟩
  isplitr; · iempintro
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-- The call's family of proof data: one pipeline. -/
def pdats : (p : Fin 1) → (c : Dev nD) → Dat τ (Elt F) (HIx 1) ℕ UU ℕ (Pipeline.pin (pcfgs (F := F)) adm1 p) c
  | ⟨0, _⟩ => fun c => dat V3 A2 V4 c

/-- The result's array after the region: the kernel's word of the two inputs. -/
theorem arr2_eq (c : Dev nD) : (dat V3 A2 V4 c).arrAt 2 cfg1.N = k1_pay1 (F := F) (V3 c) (A2 c) := by
  refine (dat V3 A2 V4 c).arrAt_eq_of_after_last 2 t1_0 (by decide +kernel) (k1_pay1 (F := F) (V3 c) (A2 c)) (fun j => ?_) (Memref.isWhole_whole _)
  dsimp only [dat]
  rw [stg0_eq, stg1_eq]
  rfl

abbrev v3Loc (d : Dev nD) := (SparseCore.T d : Thread nD τ).loc main_v3
abbrev a2Loc (d : Dev nD) := (SparseCore.T d : Thread nD τ).loc main_arg2
abbrev v4Loc (d : Dev nD) := (SparseCore.T d : Thread nD τ).loc main_v4

theorem arrays_three (c : Dev nD) (G : (w : Fin cfg1.W) → Buf (Elt F) ((cfg1.win w).arr.view.loc (c.tc : Thread nD τ)))
    (g0 : S32x32x32.Idx → Elt F .f32) (g1 g2 : S21x21.Idx → Elt F .f32) (h0 : G 0 = g0) (h1 : G 1 = g1) (h2 : G 2 = g2) :
    ((pdats V3 A2 V4 0 c).arrays G : sProp 𝕄) = iprop((v3Loc c ↦{fullShare} g0) ∗ (a2Loc c ↦{fullShare} g1) ∗ (v4Loc c ↦{fullShare} g2)) := by
  subst h0 h1 h2
  exact (Pipeline.arrays_eq (Pipeline.pin (pcfgs (F := F)) adm1) (pdats V3 A2 V4) 0 c launch1.arr_whole
    ((pdats V3 A2 V4 0 c).share_full fun _ => rfl) G).trans (bigSep_W1 _)

/-- What the TensorCore holds around its region: the three arrays, the result's at `r`, and nothing owed. -/
abbrev held3 (r : Dev nD → S21x21.Idx → Elt F .f32) (c : Dev nD) : sProp 𝕄 :=
  iprop((v3Loc c ↦{fullShare} V3 c) ∗ (a2Loc c ↦{fullShare} A2 c) ∗ (v4Loc c ↦{fullShare} r c)
    ∗ ∃ W, ⌜(K (F := F)).WBelow (SparseCore.T c) W 8⌝ ∗ owes (SparseCore.T c) (0 : CellTallies nD τ sig (HIx 1)) W)

set_option backward.isDefEq.respectTransparency.types false in
/-- The region: entered holding the three arrays, left with the result's at the kernel's word. -/
def reg : Pipeline.RegionSeg (pcfgs (F := F)) adm1 (pdats V3 A2 V4) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_ob V3 A2 V4 c).loose
  hwaits := Pipeline.hwaits_of_owed_zero _ _ _ _ (K (F := F)).L (K (F := F)).lev 0 fun _ _ => rfl
  pre c := held3 V3 A2 V4 c
  post c := held3 V3 A2 (fun c => k1_pay1 (F := F) (V3 c) (A2 c)) c
  X _ := BI.emp
  Y _ := BI.emp
  Z _ := BI.emp
  hentry c := by
    rw [Pipeline.ownSems0_none, Pipeline.prefHeld_of_none _ rfl,
      arrays_three V3 A2 V4 c _ (V3 c) (A2 c) (V4 c) rfl rfl rfl]
    iintro ⟨⟨H3, H2, H4, %W, %hW, HO⟩, -, -⟩
    imodintro
    isplitl [H3 H2 H4]
    · isplitl [H3]; · iexact H3
      isplitl [H2] <;> iassumption
    isplitr; · iempintro
    isplitl [HO]
    · iexists W
      isplitr; · ipureintro; exact fun q hq => Or.inl (hW q hq)
      iexact HO
    isplitr <;> iempintro
  hin c := by
    rw [show (pdats V3 A2 V4 0 c).Φ 0 = BI.emp from rfl]
    iintro ⟨-, -, -⟩; iempintro
  hout c := by
    rw [Pipeline.ownSems0_none, show (pdats V3 A2 V4 0 c).Φ (Fin.last _) = BI.emp from rfl, scopedRest1_eq]
    iintro -
    isplitr; · iempintro
    isplitr <;> iempintro
  hexit c := by
    rw [arrays_three V3 A2 V4 c _ (V3 c) (A2 c) (k1_pay1 (F := F) (V3 c) (A2 c)) ((dat V3 A2 V4 c).arrAt_in 0 rfl _)
      ((dat V3 A2 V4 c).arrAt_in 1 rfl _) (arr2_eq V3 A2 V4 c)]
    iintro ⟨⟨H3, H2, H4⟩, ⟨%W, %hW, HO⟩, -, -⟩
    imodintro
    isplitl [H3]; · iexact H3
    isplitl [H2]; · iexact H2
    isplitl [H4]; · iexact H4
    iexists W
    isplitr
    · ipureintro
      intro q hq
      rcases hW hq with h | ⟨w, s, h⟩
      · exact h
      · rw [h]; exact Nat.zero_le _
    iexact HO

end Region

end Cert.Proof.KernelIdeal

end
-- ==== Proof.Main.lean ====
/-
  @main on the TensorCore: the host's reshapes, the SparseCore call, the TensorCore region; the launch's ghost state; and the
  program's run, with what the result's array ends holding.
-/
module

public import proofs.«01_k».proof.Proof.Region

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The words of the run -/

abbrev locT (d : Dev nD) (b : Ref sig .tc) : Loc nD τ sig := (SparseCore.T d : Thread nD τ).loc b

/-- The two label arrays laid flat, and the partial histograms' array as found. -/
abbrev yOf (d : Dev nD) : S1048576.Idx → Elt F .i32 := shapeCast S1048576 (m (locT d main_arg0)) shapeCasts_S4x512x512_S1048576
abbrev pOf (d : Dev nD) : S1048576.Idx → Elt F .i32 := shapeCast S1048576 (m (locT d main_arg1)) shapeCasts_S4x512x512_S1048576
abbrev oOf (d : Dev nD) : S32x64x16.Idx → Elt F .f32 := m (locT d main_v2)
/-- The partial histograms laid out by worker, and the result. -/
abbrev v3Of (d : Dev nD) : S32x32x32.Idx → Elt F .f32 :=
  shapeCast S32x32x32 (parts (F := F) (yOf m d) (pOf m d)) shapeCasts_S32x64x16_S32x32x32
abbrev resOf (d : Dev nD) : S21x21.Idx → Elt F .f32 := k1_pay1 (F := F) (v3Of m d) (m (locT d main_arg2))

/-! ## The launch's ghost state -/

abbrev pcs1 : (p : Fin 1) → Pipeline.Cfg sig Λ₀ := Pipeline.pin (pcfgs (F := F)) adm1

theorem cells_inj : Function.Injective (Pipeline.cellOf (nD := nD) (τ := τ) (pcs1 (F := F))) := cellOf_inj

def u₀ : UU := (initOf (K (F := F)).hsCells (K (F := F)).hsToks,
  (initOf (Pipeline.cells (pcs1 (F := F)) cells_inj) (Pipeline.launchToks (pcs1 (F := F)) cells_inj), 1))

abbrev G (d : Dev nD) : sProp 𝕄 := iprop(Pipeline.cellsGhost (pcs1 (F := F)) EP 0 d ∗ Pipeline.toksInit (pcs1 (F := F)) EP 0 d)

theorem hu₀ (y p : Dev nD → S1048576.Idx → Elt F .i32) (o : Dev nD → S32x64x16.Idx → Elt F .f32) : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P y p o).x q thr) := by
  unfold u₀
  iintro Hu
  ihave H := (ownU_pair (initOf (K (F := F)).hsCells (K (F := F)).hsToks)
    (initOf (Pipeline.cells (pcs1 (F := F)) cells_inj) (Pipeline.launchToks (pcs1 (F := F)) cells_inj), (1 : Counters))) $$ Hu
  icases H with ⟨HH, HR⟩
  ihave HR' := (own_pair_emb (embR : Emb (UR sig nD τ × Counters) 𝕄) (initOf (Pipeline.cells (pcs1 (F := F)) cells_inj) (Pipeline.launchToks (pcs1 (F := F)) cells_inj)) (1 : Counters)) $$ HR
  icases HR' with ⟨HP, -⟩
  imod (Pipeline.fund_ghost (pcs1 (F := F)) EP cells_inj) $$ HP with ⟨Hg, Ht⟩
  imodintro
  isplitl [HH]; · iexact HH
  isplitl [Hg Ht]
  · rw [bigSep_sep']
    isplitl [Hg]
    · rw [show (bigSep Finset.univ fun d : Dev nD => (Pipeline.cellsGhost (pcs1 (F := F)) EP 0 d : sProp 𝕄))
        = bigSep Finset.univ fun d : Dev nD => bigSep Finset.univ fun p => Pipeline.cellsGhost (pcs1 (F := F)) EP p d from
          bigSep_congr fun d _ => (show (bigSep Finset.univ fun p : Fin 1 => (Pipeline.cellsGhost (pcs1 (F := F)) EP p d : sProp 𝕄)) = _ from
            bigSep_univ_of_subsingleton (0 : Fin 1)).symm]
      iexact Hg
    · rw [show (bigSep Finset.univ fun d : Dev nD => (Pipeline.toksInit (pcs1 (F := F)) EP 0 d : sProp 𝕄))
        = bigSep Finset.univ fun d : Dev nD => bigSep Finset.univ fun p => Pipeline.toksInit (pcs1 (F := F)) EP p d from
          bigSep_congr fun d _ => (show (bigSep Finset.univ fun p : Fin 1 => (Pipeline.toksInit (pcs1 (F := F)) EP p d : sProp 𝕄)) = _ from
            bigSep_univ_of_subsingleton (0 : Fin 1)).symm]
      iexact Ht
  rw [show (bigSep Finset.univ fun thr : Thread nD τ => bigSep Finset.univ fun q : Fin 1 => (P y p o).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## The steps of @main -/

theorem unscopedBufs_eq (d : Dev nD) (W : (b : Ref sig .tc) → Buf (Elt F) ((d.tc : Thread nD τ).loc b)) :
    (unscopedBufs d W : sProp 𝕄)
      = iprop((locT d main_arg0 ↦{fullShare} W main_arg0) ∗ (locT d main_arg1 ↦{fullShare} W main_arg1) ∗ (locT d main_arg2 ↦{fullShare} W main_arg2)
        ∗ (locT d main_v0 ↦{fullShare} W main_v0) ∗ (locT d main_v1 ↦{fullShare} W main_v1) ∗ (locT d main_v2 ↦{fullShare} W main_v2)
        ∗ (locT d main_v3 ↦{fullShare} W main_v3) ∗ (locT d main_v4 ↦{fullShare} W main_v4)) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A reshape by the host of `x`'s array into `y`'s: `y`'s takes `x`'s elements in order, `x`'s stays. -/
theorem host_reshape (m : (ℓ : Loc nD τ sig) → Buf (Elt F) ℓ) (d : Dev nD) (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hne : x ≠ y)
    (fx : Buf (Elt F) (locT d x)) (fy : Buf (Elt F) (locT d y)) (Q : PUnit → sProp 𝕄) :
    iprop(boundary (SparseCore.T d) ∗ (locT d x ↦{fullShare} fx) ∗ (locT d y ↦{fullShare} fy)
        ∗ (iprop(boundary (SparseCore.T d) ∗ (locT d x ↦{fullShare} fx)
            ∗ (locT d y ↦{fullShare} ((fun i => he ▸ shapeCast y.ty.shape fx hn i) : Buf (Elt F) (locT d y)))) -∗ Q ⟨⟩))
      ⊢ wp frame (wpE ((K (F := F)).defs (D (F := F))) 𝒱 (SparseCore.T d) none) Set.univ
          (hlo rfl (StableHlo.reshape (τ := τ) (Val := Elt F) x y he hn hx hy) (fun _ => .ret ⟨⟩)) Q := by
  classical
  have hxy : (Proc.devRef .tc x : DevRef τ sig) ≠ Proc.devRef .tc y := StableHlo.devRef_ne_of_ne hne
  let V : Valuation τ sig (Elt F) := Function.update (Function.update (fun b => m (d, b)) (Proc.devRef .tc x) fx) (Proc.devRef .tc y) fy
  have hVx : V (Proc.devRef .tc x) = fx := by
    show Function.update _ _ _ _ = _
    rw [Function.update_of_ne hxy, Function.update_self]
  have hVy : V (Proc.devRef .tc y) = fy := Function.update_self ..
  have hheld : ∀ W : Valuation τ sig (Elt F), (StableHlo.held (SparseCore.T d : Thread nD τ) {Proc.devRef .tc x, Proc.devRef .tc y} W : sProp 𝕄)
      = iprop((locT d x ↦{fullShare} W (Proc.devRef .tc x)) ∗ (locT d y ↦{fullShare} W (Proc.devRef .tc y))) := fun W => by
    unfold StableHlo.held
    rw [SparseCore.bigSep_insert' (by simpa using hxy), bigSep_singleton]
  have hRx : (StableHlo.reshape (τ := τ) (Val := Elt F) x y he hn hx hy).result V (Proc.devRef .tc x) = fx :=
    (StableHlo.reshape_result_ne _ _ he hn hx hy V hne).trans hVx
  have hRy := StableHlo.reshape_result (τ := τ) (Val := Elt F) x y he hn hx hy V
  rw [hVx] at hRy
  iintro ⟨Hb, Hx, Hy, HQ⟩
  iapply (StableHlo.wp_hlo_within 𝒱 (SparseCore.T d : Thread nD τ) none Set.univ (S := {Proc.devRef .tc x, Proc.devRef .tc y}) (V := V) (Finset.Subset.refl _)) $$ [Hb Hx Hy]
  · isplitl [Hb]; · iexact Hb
    rw [hheld, hVx, hVy]
    isplitl [Hx] <;> iassumption
  rw [hheld, hRx, hRy, wp_ret]
  iintro ⟨Hb, Hx, Hy⟩
  imodintro
  iapply HQ
  isplitl [Hb]; · iexact Hb
  isplitl [Hx] <;> iassumption

theorem reg_pre (V3 : Dev nD → S32x32x32.Idx → Elt F .f32) (A2 V4 : Dev nD → S21x21.Idx → Elt F .f32) (d : Dev nD) :
    (reg V3 A2 V4).pre d = held3 V3 A2 V4 d := rfl
theorem reg_post (V3 : Dev nD → S32x32x32.Idx → Elt F .f32) (A2 V4 : Dev nD → S21x21.Idx → Elt F .f32) (d : Dev nD) :
    (reg V3 A2 V4).post d = held3 V3 A2 (fun c => k1_pay1 (F := F) (V3 c) (A2 c)) d := rfl

/-- The TensorCore call of @main: its region, entered from inside the program of the SparseCore launch. -/
theorem call_region [∀ e, Nonempty (Elt F e)] (V3 : Dev nD → S32x32x32.Idx → Elt F .f32) (A2 V4 : Dev nD → S21x21.Idx → Elt F .f32) (d : Dev nD) (Q : PUnit → sProp 𝕄) :
    iprop(boundary (SparseCore.T d) ∗ held3 V3 A2 V4 d ∗ levAts (K (F := F)).L (K (F := F)).lev ∗ G d
        ∗ (iprop(boundary (SparseCore.T d) ∗ held3 V3 A2 (fun c => k1_pay1 (F := F) (V3 c) (A2 c)) d) -∗ Q ⟨⟩))
      ⊢ wp frame (wpE ((K (F := F)).defs (D (F := F))) 𝒱 (SparseCore.T d) none) Set.univ
          (Prog.lift (.customCall (SparseCore.inner (Pipeline.entry 0)) ())) Q := by
  have h1 := (K (F := F)).wp_liftProg (D (F := F)) 𝒱 (SparseCore.T d) Set.univ none
    (.op (.customCall (Pipeline.entry 0) ()) .ret) Q
  have h2 := Pipeline.RegionSeg.wp (pcfgs (F := F)) adm1 (pdats V3 A2 V4) none cells_inj EP (defs₀ (F := F)) 𝒱₀ (K (F := F)).L (K (F := F)).lev
    (reg V3 A2 V4) d none (fun _ h => nomatch h) .ret Q
  refine BIBase.Entails.trans ?_ (h2.trans h1)
  rw [wp_ret, reg_pre, reg_post]
  iintro ⟨Hb, Hh, Hl, ⟨Hg, Ht⟩, HQ⟩
  isplitl [HQ]
  · iintro H; imodintro; iapply HQ; iexact H
  isplitl [Hb]; · iexact Hb
  isplitl [Hh]; · iexact Hh
  isplitl [Hl]; · iexact Hl
  isplitl [Hg] <;> iassumption

/-! ## @main, and the run -/

abbrev FIN (d : Dev nD) : sProp 𝕄 :=
  iprop((locT d main_arg0 ↦{fullShare} m (locT d main_arg0)) ∗ (locT d main_arg1 ↦{fullShare} m (locT d main_arg1))
    ∗ (locT d main_arg2 ↦{fullShare} m (locT d main_arg2)) ∗ (locT d main_v4 ↦{fullShare} resOf m d))

theorem hmain [∀ e, Nonempty (Elt F e)] (κ : GSem nD τ sig → ℕ) (d : Dev nD) :
    iprop((K (F := F)).ctx EH (P (yOf m) (pOf m) (oOf m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha0, Ha1, Ha2, H0, H1, H2, H3, H4⟩, Hts, -⟩, HG⟩
  iapply (host_reshape m d main_arg0 main_v0 _ _ _ _ (by decide) (m (locT d main_arg0)) (m (locT d main_v0)) _)
  isplitl [Hb]; · iexact Hb
  isplitl [Ha0]; · iexact Ha0
  isplitl [H0]; · iexact H0
  iintro ⟨Hb, Ha0, H0⟩
  iapply (host_reshape m d main_arg1 main_v1 _ _ _ _ (by decide) (m (locT d main_arg1)) (m (locT d main_v1)) _)
  isplitl [Hb]; · iexact Hb
  isplitl [Ha1]; · iexact Ha1
  isplitl [H1]; · iexact H1
  iintro ⟨Hb, Ha1, H1⟩
  iapply ((K (F := F)).wp_run (D (F := F)) 𝒱 (EH := EH) (P := P (yOf m) (pOf m) (oOf m)) κ d 0) $$ [Hst Ha0 Ha1 Ha2 H0 H1 H2 H3 H4 Hb Hts HG]
  isplitr; · iexact Hctx
  isplitl [Hst]; · iexact Hst
  isplitl [H0 H1 H2]
  · rw [st0_eq]
    isplitl [H0]; · iexact H0
    isplitl [H1] <;> iassumption
  iintro ⟨Hst, Hdn⟩
  ihave Hdn' := (Entails.of_eq (dn0_eq d (yOf m) (pOf m) (oOf m))) $$ Hdn
  icases Hdn' with ⟨-, -, H2⟩
  iapply (host_reshape m d main_v2 main_v3 _ _ _ _ (by decide) (parts (F := F) (yOf m d) (pOf m d)) (m (locT d main_v3)) _)
  isplitl [Hb]; · iexact Hb
  isplitl [H2]; · iexact H2
  isplitl [H3]; · iexact H3
  iintro ⟨Hb, -, H3⟩
  unfold SparseCore.Cfg.tcSt
  icases Hst with ⟨⟨%W, %hW, HO⟩, Hst⟩
  iapply (call_region (v3Of m) (fun d => m (locT d main_arg2)) (fun d => m (locT d main_v4)) d _)
  isplitl [Hb]; · iexact Hb
  isplitl [H3 Ha2 H4 HO]
  · isplitl [H3]; · iexact H3
    isplitl [Ha2]; · iexact Ha2
    isplitl [H4]; · iexact H4
    iexists W
    isplitr; · ipureintro; exact hW
    rw [show (K (F := F)).Otc d ((0 : Fin 1).val + 1) = 0 from (K (F := F)).Otc_end d (le_refl 1)]
    iexact HO
  isplitr; · iapply (SparseCore.Cfg.ctx_levAts κ); iexact Hctx
  isplitl [HG]; · iexact HG
  iintro ⟨Hb, H3, Ha2, H4, ⟨%W', %hW', HO⟩⟩
  imodintro
  isplitl [HO Hst]
  · isplitl [HO]
    · iexists W'
      isplitr; · ipureintro; exact hW'
      rw [(K (F := F)).Otc_end d (le_refl 1)]
      iexact HO
    iexact Hst
  isplitr [Hb Hts]
  · isplitl [Ha0]; · iexact Ha0
    isplitl [Ha1]; · iexact Ha1
    isplitl [Ha2]; · iexact Ha2
    iexact H4
  isplitl [Hb] <;> iassumption

def fq (d : Dev nD) (s' : Phys nD τ sig (Elt F)) : Prop :=
  s'.mem.mem (locT d main_arg0) = m (locT d main_arg0) ∧ s'.mem.mem (locT d main_arg1) = m (locT d main_arg1)
    ∧ s'.mem.mem (locT d main_arg2) = m (locT d main_arg2) ∧ s'.mem.mem (locT d main_v4) = resOf m d

theorem read_one (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr; · ipureintro; exact funext fun i => hx i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H4⟩, HSI⟩
  ihave H := (read_one s' _ _) $$ [H0 HSI]
  · isplitl [H0] <;> iassumption
  icases H with ⟨%h0, HSI⟩
  ihave H := (read_one s' _ _) $$ [H1 HSI]
  · isplitl [H1] <;> iassumption
  icases H with ⟨%h1, HSI⟩
  ihave H := (read_one s' _ _) $$ [H2 HSI]
  · isplitl [H2] <;> iassumption
  icases H with ⟨%h2, HSI⟩
  ihave H := (read_one s' _ _) $$ [H4 HSI]
  · isplitl [H4] <;> iassumption
  icases H with ⟨%h4, -⟩
  ipureintro; exact ⟨h0, h1, h2, h4⟩

/-- What the run ends with: the three arguments as found, the result's array at `resOf`, every counter zero. -/
def QC : PUnit × MemSt nD τ sig (Elt F) → Prop := fun r =>
  (∀ c : Dev nD, r.2.mem (locT c main_arg0) = m (locT c main_arg0) ∧ r.2.mem (locT c main_arg1) = m (locT c main_arg1)
    ∧ r.2.mem (locT c main_arg2) = m (locT c main_arg2) ∧ r.2.mem (locT c main_v4) = resOf m c) ∧ r.2.sem = fun _ => 0

/-- The program's run, where every vector's cells pass the scatter's check. -/
theorem run_main [∀ e, Nonempty (Elt F e)]
    (hc : ∀ d n, k0_chk1 (k0_pay5 (F := F) k0_pay3 (lanesAt (yOf m d) n) (lanesAt (pOf m d) n))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (yOf m) (pOf m) (oOf m)) (A := ∅) facts v₀
    (fun q hq => match q with | 0 => nomatch hq)
    (fun q _ => match q with | 0 => tileObl (yOf m) (pOf m) (oOf m) hc facts)
    (fun q _ => match q with | 0 => SparseCore.Cfg.VecSplit.of_plain (vecSplit (yOf m) (pOf m) (oOf m)))
    m ρ main G (FIN m) (u₀ (F := F)) (sep_elim_left.trans (hu₀ (yOf m) (pOf m) (oOf m))) (hmain m ρ) (fq m) (hfin m) (QC m) (fun _ h hz => ⟨h, hz⟩)

end Cert.Proof.KernelIdeal

end
-- ==== Proof.Range.lean ====
/-
  The labels of a memory the precondition holds of lie below 21, so every cell the kernel scatters to is one of the accumulator's.
-/
module

public import proofs.«01_k».proof.Proof.Main
public import proofs.«01_k».proof.Proof.Gen.Pre_labels_in_range
public import Idealize.ShloMosaic.Lib.ReduceAll
public import Idealize.ShloMosaic.Lib.Affine
public import Idealize.ShloMosaic.Lib.ValueLayout

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.ValueIdx
/-! ## Labels below 21 -/

/-- Every label of both arrays names one of the 21 classes. -/
def InRange (y p : S1048576.Idx → Elt F .i32) : Prop :=
  ∀ i, (show BitVec 32 from y i).toNat < 21 ∧ (show BitVec 32 from p i).toNat < 21

/-- A word that is at least 0 and below 21 as a signed number is below 21 as an unsigned one. -/
theorem toNat_lt_21 {w : BitVec 32} (h0 : (0#32 : BitVec 32).toInt ≤ w.toInt) (h1 : w.toInt < (21#32 : BitVec 32).toInt) : w.toNat < 21 := by
  have e0 : (0#32 : BitVec 32).toInt = 0 := by decide
  have e1 : (21#32 : BitVec 32).toInt = 21 := by decide
  have hl := w.isLt
  rw [e0] at h0; rw [e1] at h1
  rw [BitVec.toInt_eq_toNat_cond] at h0 h1
  split at h0 <;> omega

variable [FloatOps F]

/-- What the precondition says of the two label arguments. -/
theorem labels_of_pre [Cert.Pre_labels_in_range.Facts] (a0 a1 : IVec S4x512x512 32) (a2 : FVec F S21x21 .f32)
    (h : Cert.Pre_labels_in_range.fn (F := F) a0 a1 a2 = fun _ => 1#1) : ∀ i, (a0 i).toNat < 21 ∧ (a1 i).toNat < 21 := by
  intro i
  have hz := congrFun h (fun q : Fin 0 => q.elim0)
  dsimp only [Cert.Pre_labels_in_range.fn] at hz
  obtain ⟨z0, z1⟩ := IntOp.andi_eq_one.1 hz
  haveI : Subsingleton Cert.Pre_labels_in_range.S_.Idx := ⟨fun a b => funext fun q : Fin 0 => q.elim0⟩
  have y0 := Host.reduce_andi_all _ _ _ _ _ z0 i
  have y1 := Host.reduce_andi_all _ _ _ _ _ z1 i
  obtain ⟨a, b⟩ := IntOp.andi_eq_one.1 y0
  obtain ⟨a', b'⟩ := IntOp.andi_eq_one.1 y1
  exact ⟨toNat_lt_21 (IntOp.cmpi_sge.1 a) (IntOp.cmpi_slt.1 b), toNat_lt_21 (IntOp.cmpi_sge.1 a') (IntOp.cmpi_slt.1 b')⟩

/-- The cell a lane adds to: a thousand and twenty four cells per lane, thirty two per true label. -/
theorem cell_toNat (y p : S1048576.Idx → Elt F .i32) (hr : InRange y p) (n : ℕ) (x : Fin 16) :
    (k0_pay5 (F := F) k0_pay3 (lanesAt y n) (lanesAt p n) (ix1 x)).toNat
      = 1024 * x.val + 32 * (show BitVec 32 from y (px (n + x.val))).toNat + (show BitVec 32 from p (px (n + x.val))).toNat := by
  obtain ⟨h0, h1⟩ := hr (px (n + x.val))
  have hx := x.isLt
  unfold k0_pay5 k0_pay3
  have e0 : shapeCast S16 (lanesAt y n) shapeCasts_S1x16_S16 (ix1 x) = y (px (n + x.val)) := shapeCast_1a_a_apply _ _ x
  have e1 : shapeCast S16 (lanesAt p n) shapeCasts_S1x16_S16 (ix1 x) = p (px (n + x.val)) := shapeCast_1a_a_apply _ _ x
  have e2 : iota .scVector S16 32 [0] iota_S16_d0_w32_scVector (ix1 x) = BitVec.ofNat 32 x.val := iota_single_apply _ _ _ _ _ _
  show (IntOp.addi (IntOp.addi (IntOp.muli (shapeCast S16 (lanesAt y n) shapeCasts_S1x16_S16 (ix1 x)) 32#32)
    (shapeCast S16 (lanesAt p n) shapeCasts_S1x16_S16 (ix1 x))) (IntOp.muli (iota .scVector S16 32 [0] iota_S16_d0_w32_scVector (ix1 x)) 1024#32)).toNat = _
  rw [e0, e1, e2]
  generalize y (px (n + x.val)) = u at *
  generalize p (px (n + x.val)) = v at *
  change BitVec 32 at u
  change BitVec 32 at v
  change u.toNat < 21 at h0
  change v.toNat < 21 at h1
  show ((u * 32#32 + v) + BitVec.ofNat 32 x.val * 1024#32).toNat = 1024 * x.val + 32 * u.toNat + v.toNat
  rw [BitVec.toNat_add, BitVec.toNat_add, BitVec.toNat_mul, BitVec.toNat_mul, BitVec.toNat_ofNat, BitVec.toNat_ofNat, BitVec.toNat_ofNat]
  omega

/-- The kernel's own condition on a vector's cells. -/
theorem chk_of_inRange (y p : S1048576.Idx → Elt F .i32) (hr : InRange y p) (n : ℕ) :
    k0_chk1 (k0_pay5 (F := F) k0_pay3 (lanesAt y n) (lanesAt p n)) := by
  intro a x
  have ha : a = 0 := Subsingleton.elim _ _
  subst ha
  have ex : x = ix1 (x 0) := by funext q; match q with | 0 => rfl
  rw [ex]
  show (k0_pay5 (F := F) k0_pay3 (lanesAt y n) (lanesAt p n) (ix1 (x 0))).toNat < 16384
  rw [cell_toNat y p hr n (x 0)]
  obtain ⟨h0, h1⟩ := hr (px (n + (x 0).val))
  have hx : (x 0).val < 16 := (x 0).isLt
  omega

variable (m : (ℓ : Loc nD τ sig) → Buf (Elt F) ℓ) (ρ : Dev nD → PrngReg)

/-- The labels the precondition allows are in range, read flat. -/
theorem inRange_of_pre [Cert.Pre_labels_in_range.Facts]
    (h : ∀ d : Dev nD, Cert.Pre_labels_in_range.fn (F := F) (m (locT d main_arg0)) (m (locT d main_arg1)) (m (locT d main_arg2)) = fun _ => 1#1) (d : Dev nD) :
    InRange (yOf m d) (pOf m d) := fun _ => labels_of_pre _ _ _ (h d) _

/-- The program's run from a memory the precondition holds of. -/
theorem run_pre [∀ e, Nonempty (Elt F e)] [Cert.Pre_labels_in_range.Facts]
    (h : ∀ d : Dev nD, Cert.Pre_labels_in_range.fn (F := F) (m (locT d main_arg0)) (m (locT d main_arg1)) (m (locT d main_arg2)) = fun _ => 1#1) :
    θ_run (Cert.KernelIdeal.defs (F := F)) (Cert.KernelIdeal.threads (F := F)) ⟨m, fun _ => 0, ρ⟩ (QC m) :=
  run_main m ρ fun d n => chk_of_inRange _ _ (inRange_of_pre m h d) n

end Cert.Proof.KernelIdeal

end
-- ==== Proof.Count.lean ====
/-
  What the tiles count, over the extended reals: a cell of a tile's accumulator is the number of the tile's pixels whose lane and
  labels name it, and a word of the parts is the number of one worker's pixels in one bin.
-/
module

public import proofs.«01_k».proof.Proof.Range
public import Idealize.ShloMosaic.PureOps.Ideal
public import Idealize.ShloMosaic.PureOps.Ideal.Laws
public import Idealize.ShloMosaic.Lib.IdealHost

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Sums over consecutive numbers -/

/-- A sum over `a` blocks of `b` consecutive numbers is the sum over all of them. -/
theorem sum_blocks (a b : ℕ) (f : ℕ → EReal) :
    ∑ k ∈ Finset.range a, ∑ x ∈ Finset.range b, f (b * k + x) = ∑ n ∈ Finset.range (b * a), f n := by
  induction a with
  | zero => simp
  | succ a ih => rw [Finset.sum_range_succ, ih, Nat.mul_succ, Finset.sum_range_add]

/-- The bin a pixel's two labels name. -/
def bin (y p : S1048576.Idx → Elt Ideal .i32) (n : ℕ) : ℕ :=
  32 * (show BitVec 32 from y (px n)).toNat + (show BitVec 32 from p (px n)).toNat

/-- One if two numbers agree, else zero. -/
def one (a b : ℕ) : EReal := if a = b then 1 else 0

theorem bin_lt {y p : S1048576.Idx → Elt Ideal .i32} (hr : InRange (F := Ideal) y p) (n : ℕ) : bin y p n < 1024 := by
  obtain ⟨h0, h1⟩ := hr (px n)
  unfold bin
  omega

/-! ## The accumulator -/

/-- A list of cells, one added at each in turn: a cell ends with one more for every time the list names it. -/
theorem fold_ones {ι : Type} (ix : ι → S16384.Idx) (j : S16384.Idx) : ∀ (l : List ι) (f : S16384.Idx → EReal),
    l.foldl (fun g k => fun j => if ∀ a, (j a).val = (ix k a).val then g (ix k) + 1 else g j) f j
      = f j + (l.map fun k => one (j 0).val (ix k 0).val).sum
  | [], f => by simp
  | k :: l, f => by
    rw [List.foldl_cons, fold_ones ix j l, List.map_cons, List.sum_cons, ← add_assoc]
    congr 1
    unfold one
    by_cases h : (j 0).val = (ix k 0).val
    · have e : j = ix k := by funext q; match q with | 0 => exact Fin.ext h
      rw [if_pos h, if_pos (by rw [e]; intro a; rfl), ← e]
    · rw [if_neg h, if_neg (fun q => h (q 0)), add_zero]

variable {y p : S1048576.Idx → Elt Ideal .i32} (hr : InRange (F := Ideal) y p)
include hr

/-- One vector counted. -/
theorem accStep_count (a : S16384.Idx → Elt Ideal .f32) (n : ℕ) (j : S16384.Idx) :
    (accStep (F := Ideal) a (lanesAt y n) (lanesAt p n) j : EReal)
      = (a j : EReal) + ∑ x ∈ Finset.range 16, one (j 0).val (1024 * x + bin y p (n + x)) := by
  unfold accStep
  rw [dif_pos (chk_of_inRange y p hr n)]
  unfold storeIdx
  have e := fold_ones (fun k : Fin 16 => idxAt (s := S16384) ![k0_pay5 (F := Ideal) k0_pay3 (lanesAt y n) (lanesAt p n)]
    (k0_idx1_inb _ (chk_of_inRange y p hr n)) (Shape.ofLane (d := ![16]) k)) j (List.finRange 16) a
  refine Eq.trans ?_ (e.trans ?_)
  · refine congrFun (congrArg (fun h => List.foldl h a (List.finRange 16)) ?_) j
    funext g k i
    show (if (1#1 : BitVec 1) = 1 then _ else g : S16384.Idx → Elt Ideal .f32) i = _
    rw [if_pos (show (1#1 : BitVec 1) = 1 from rfl)]
    by_cases hq : ∀ b, (i b).val = (idxAt (s := S16384) ![k0_pay5 (F := Ideal) k0_pay3 (lanesAt y n) (lanesAt p n)]
      (k0_idx1_inb _ (chk_of_inRange y p hr n)) (Shape.ofLane (d := ![16]) k) b).val
    · refine (if_pos hq).trans (Eq.trans ?_ (if_pos hq).symm)
      show (g _ + Ideal.ofBits .f32 0x3F800000#32 : EReal) = _
      rw [Ideal.ofBits_one_f32]
    · exact (if_neg hq).trans (if_neg hq).symm
  · congr 1
    rw [← List.ofFn_eq_map, List.sum_ofFn, Finset.sum_range]
    refine Finset.sum_congr rfl fun x _ => ?_
    congr 1
    have e := cell_toNat (F := Ideal) y p hr n x
    have ex : Shape.ofLane (d := ![16]) x = ValueIdx.ix1 x := by funext q; match q with | 0 => rfl
    rw [Nat.add_assoc] at e
    refine Eq.trans ?_ e
    rw [← ex]
    rfl

/-- The accumulator after any number of vectors: each cell counts the pixels whose labels and lane name it. -/
theorem accAt_count (base n : ℕ) (j : S16384.Idx) :
    (accAt (F := Ideal) y p base n j : EReal)
      = ∑ k ∈ Finset.range n, ∑ x ∈ Finset.range 16, one (j 0).val (1024 * x + bin y p (base + 16 * k + x)) := by
  induction n with
  | zero =>
    rw [Finset.sum_range_zero]
    exact Ideal.ofBits_zero_f32
  | succ n ih =>
    rw [Finset.sum_range_succ, ← ih]
    exact accStep_count hr _ _ j

/-- The sixteen lanes' cells of one bin, summed: the pixels in the bin. -/
theorem lanes_count (base n b : ℕ) (hb : b < 1024) :
    ∑ l ∈ Finset.range 16, (accAt (F := Ideal) y p base n (cell (b + 1024 * l)) : EReal)
      = ∑ k ∈ Finset.range (16 * n), one b (bin y p (base + k)) := by
  rw [← sum_blocks n 16 fun k => one b (bin y p (base + k))]
  rw [Finset.sum_congr rfl fun l _ => accAt_count hr base n (cell (b + 1024 * l)), Finset.sum_comm]
  refine Finset.sum_congr rfl fun k _ => ?_
  rw [Finset.sum_comm]
  refine Finset.sum_congr rfl fun x hx => ?_
  have hbin := bin_lt hr (base + 16 * k + x)
  rw [Finset.mem_range] at hx
  rw [Finset.sum_eq_single_of_mem x (Finset.mem_range.2 hx)]
  · unfold one
    have ec : ((cell (b + 1024 * x)) 0).val = (b + 1024 * x) % 16384 := rfl
    rw [ec, ← Nat.add_assoc base]
    congr 1
    apply propext
    omega
  · intro l hl hne
    rw [Finset.mem_range] at hl
    have ec : ((cell (b + 1024 * l)) 0).val = (b + 1024 * l) % 16384 := rfl
    unfold one
    rw [ec, if_neg (by omega)]

omit hr in
/-- A word of a part: the sixteen lanes' words, summed. -/
theorem partRow_sum (a : S16384.Idx → Elt Ideal .f32) (t : ℕ) (q : Fin 16) :
    (partRow (F := Ideal) a t (lane16 q.val) : EReal) = ∑ l ∈ Finset.range 16, (a (cell (16 * t + q.val + 1024 * l)) : EReal) := by
  have hq : ((lane16 q.val) 0).val = q.val := Nat.mod_eq_of_lt q.isLt
  have e : ∀ l : ℕ, (rowAt (F := Ideal) a (16 * t + l) (lane16 q.val) : EReal) = a (cell (16 * t + q.val + l)) := fun l => by
    unfold rowAt
    rw [hq, Nat.add_right_comm]
  have e0 := e 0
  simp only [Finset.sum_range_succ, Finset.sum_range_zero, zero_add]
  unfold partRow k0_pay9 k0_pay1
  rw [← e, ← e, ← e, ← e, ← e, ← e, ← e, ← e, ← e, ← e, ← e, ← e, ← e, ← e, ← e, ← e]
  rfl

/-- A word of the parts: the worker's pixels in the bin. -/
theorem parts_count (w : Fin 32) (t : Fin 64) (q : Fin 16) :
    (parts (F := Ideal) y p (ValueIdx.ix3 w t q) : EReal)
      = ∑ k ∈ Finset.range 32768, one (16 * t.val + q.val) (bin y p (32768 * w.val + k)) := by
  have h := lanes_count hr (32768 * w.val) 2048 (16 * t.val + q.val) (by have := t.isLt; have := q.isLt; omega)
  rw [← partRow_sum] at h
  exact h

end Cert.Proof.KernelIdeal

end
-- ==== Proof.Value.lean ====
/-
  The idealized kernel's matrix is the reference's, element by element: both count the pixels of each pair of labels, off row 0,
  and add the given matrix.
-/
module

public import proofs.«01_k».proof.Proof.Count
public import Idealize.ShloMosaic.Lib.Pointwise
public import proofs.«01_k».proof.Proof.Gen.ReferenceIdeal

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The kernel's last step at an index -/

/-- The combining kernel's result: the parts summed, row 0 left out, and the given matrix added. -/
theorem combine_apply (v0 : FVec Ideal S32x32x32 .f32) (v9 : FVec Ideal S21x21 .f32) (r c : Fin 21) :
    (k1_pay1 (F := Ideal) v0 v9 (ix2 r c) : EReal)
      = (if r.val = 0 then 0 else ∑ w : Fin 32, (v0 (ix3 w ⟨r.val, by omega⟩ ⟨c.val, by omega⟩) : EReal)) + v9 (ix2 r c) := by
  pointwise [k1_pay1]
  congr 1
  have hr := r.isLt
  by_cases h : r.val = 0
  · have q : IntOp.cmpi .eq (BitVec.ofNat 32 r.val) 0#32 = 1#1 := IntOp.cmpi_eq.2 (by rw [h])
    exact (if_pos q).trans (if_pos h).symm
  · have q : ¬ IntOp.cmpi .eq (BitVec.ofNat 32 r.val) 0#32 = 1#1 := fun q => by
      have q' := congrArg BitVec.toNat (IntOp.cmpi_eq.1 q)
      rw [BitVec.toNat_ofNat, BitVec.toNat_ofNat] at q'
      omega
    exact (if_neg q).trans (if_neg h).symm

/-- A word of the parts as the combining kernel reads them: 32 true labels by 32 predicted ones. -/
theorem partsCast_apply (v : S32x64x16.Idx → Elt Ideal .f32) (w r c : Fin 32) :
    shapeCast S32x32x32 v shapeCasts_S32x64x16_S32x32x32 (ix3 w r c)
      = v (ValueIdx.ix3 w ⟨(32 * r.val + c.val) / 16, by omega⟩ ⟨(32 * r.val + c.val) % 16, by omega⟩) := by
  rw [ix3_eq_valueIdx]
  refine Idealize.ShloMosaic.shapeCast_apply _ _ _ _ ?_
  rw [Shape.rowMajor_val_three, Shape.rowMajor_val_three]
  show (w.val * 64 + (32 * r.val + c.val) / 16) * 16 + (32 * r.val + c.val) % 16 = (w.val * 32 + r.val) * 32 + c.val
  omega

/-! ## The reference at an index -/

/-- A word's one-bit comparison with a small number, as a float. -/
theorem eqBit (u : BitVec 32) (l : ℕ) (hl : l < 21) : (FloatOps.uitofp (F := Ideal) .f32 (IntOp.cmpi .eq u (BitVec.ofNat 32 l)) : EReal) = one u.toNat l := by
  unfold one
  have hl' : (BitVec.ofNat 32 l).toNat = l := by rw [BitVec.toNat_ofNat]; omega
  by_cases h : u = BitVec.ofNat 32 l
  · rw [IntOp.cmpi_eq.2 h, if_pos (by rw [h, hl'])]
    show (((1 : ℕ) : ℝ) : EReal) = 1
    simp
  · have h' : u.toNat ≠ l := fun e => h (BitVec.eq_of_toNat_eq (e.trans hl'.symm))
    have e : IntOp.cmpi .eq u (BitVec.ofNat 32 l) = 0#1 := by
      rcases (show ∀ b : BitVec 1, b = 0#1 ∨ b = 1#1 by decide) (IntOp.cmpi .eq u (BitVec.ofNat 32 l)) with e | e
      · exact e
      · exact absurd (IntOp.cmpi_eq.1 e) h
    rw [e, if_neg h']
    show (((0 : ℕ) : ℝ) : EReal) = 0
    simp

/-- A word's one-bit comparison with zero, negated, as a float. -/
theorem neBit (u : BitVec 32) : (FloatOps.uitofp (F := Ideal) .f32 (IntOp.cmpi .ne u 0#32) : EReal) = if u.toNat = 0 then 0 else 1 := by
  by_cases h : u = 0#32
  · subst h
    refine Eq.trans ?_ (if_pos (show (0#32 : BitVec 32).toNat = 0 from rfl)).symm
    show (((0 : ℕ) : ℝ) : EReal) = 0
    simp
  · have h' : u.toNat ≠ 0 := fun e => h (BitVec.eq_of_toNat_eq e)
    rw [IntOp.cmpi_ne.2 h, if_neg h']
    show (((1 : ℕ) : ℝ) : EReal) = 1
    simp

open Cert.ReferenceIdeal (S1x21 S1048576x1 S1048576x21 S21x1048576) in
open Cert.ReferenceIdeal.Facts₀ Cert.ReferenceIdeal.Facts in
/-- The one-hot rows of an array of labels. -/
theorem oneHot_apply (y : IVec S1048576 32) (x : Fin 1048576) (l : Fin 21) :
    ((uitofp .f32 (cmpi .eq (broadcastInDim S1048576x21 ![0, 1] bcast_S1048576x1_S1048576x21_0_1 (broadcastInDim S1048576x1 ![0] bcast_S1048576_S1048576x1_0 y)) (broadcastInDim S1048576x21 ![0, 1] bcast_S1x21_S1048576x21_0_1 (iotaInDim S1x21 32 1))) : FVec Ideal S1048576x21 .f32) (ix2 x l) : EReal)
      = one (y (ix1 x)).toNat l.val := by
  rw [← eqBit _ _ l.isLt]
  pointwise

open Cert.ReferenceIdeal (S1x21 S1048576x1 S1048576x21 S21x1048576) in
open Cert.ReferenceIdeal.Facts₀ Cert.ReferenceIdeal.Facts in
/-- The same, with the rows of label 0 cleared. -/
theorem oneHot_masked_apply (y : IVec S1048576 32) (x : Fin 1048576) (l : Fin 21) :
    ((mulf (uitofp .f32 (cmpi .eq (broadcastInDim S1048576x21 ![0, 1] bcast_S1048576x1_S1048576x21_0_1 (broadcastInDim S1048576x1 ![0] bcast_S1048576_S1048576x1_0 y)) (broadcastInDim S1048576x21 ![0, 1] bcast_S1x21_S1048576x21_0_1 (iotaInDim S1x21 32 1)))) (broadcastInDim S1048576x21 ![0, 1] bcast_S1048576x1_S1048576x21_0_1 (broadcastInDim S1048576x1 ![0] bcast_S1048576_S1048576x1_0 (uitofp .f32 (cmpi .ne y (broadcastInDim Cert.ReferenceIdeal.S1048576 ![] bcast_S_S1048576 (constantI Cert.ReferenceIdeal.S_ 32 0#32)))))) : FVec Ideal S1048576x21 .f32) (ix2 x l) : EReal)
      = one (y (ix1 x)).toNat l.val * (if (y (ix1 x)).toNat = 0 then 0 else 1) := by
  rw [← eqBit _ _ l.isLt, ← neBit]
  pointwise

open Cert.ReferenceIdeal (S1x21 S1048576x1 S1048576x21 S21x1048576) in
open Cert.ReferenceIdeal.Facts₀ Cert.ReferenceIdeal.Facts in
/-- The product of two stacks of rows, the first transposed: a sum over the pixels. -/
theorem dot_apply (a b : FVec Ideal S1048576x21 .f32) (r c : Fin 21) :
    ((Host.dotGeneral Cert.ReferenceIdeal.dot_S21x1048576_S1048576x21_S21x21_1_0_0_1_n_n none
      (transpose S21x1048576 [1, 0] a transposes_S1048576x21_S21x1048576_1_0) b : FVec Ideal S21x21 .f32) (ix2 r c) : EReal)
      = ∑ x : Fin 1048576, (a (ix2 x r) : EReal) * b (ix2 x c) := by
  pointwise

/-! ## The two results are one -/

/-- A sum over the 32 workers' pixels is a sum over all pixels. -/
theorem count_all (f : ℕ → EReal) : ∑ x : Fin 1048576, f x.val = ∑ w : Fin 32, ∑ k ∈ Finset.range 32768, f (32768 * w.val + k) := by
  have e := sum_blocks 32 32768 f
  have hn : 32768 * 32 = 1048576 := by norm_num
  rw [hn] at e
  rw [← Finset.sum_range f, ← e]
  exact Finset.sum_range fun w => ∑ k ∈ Finset.range 32768, f (32768 * w + k)

/-- A pixel's term in the reference's product is the indicator of its bin, off row 0. -/
theorem term_eq (u v : ℕ) (hu : u < 21) (hv : v < 21) (r c : Fin 21) :
    one u r.val * (if u = 0 then 0 else 1) * one v c.val = if r.val = 0 then 0 else one (32 * r.val + c.val) (32 * u + v) := by
  have hr := r.isLt
  have hc := c.isLt
  unfold one
  by_cases h0 : r.val = 0
  · rw [if_pos h0]
    by_cases h1 : u = r.val
    · rw [if_pos h1, if_pos (h1.trans h0)]
      simp
    · rw [if_neg h1]
      simp
  · rw [if_neg h0]
    by_cases h1 : u = r.val
    · rw [if_pos h1, if_neg (by omega)]
      by_cases h2 : v = c.val
      · rw [if_pos h2, if_pos (by omega)]
        simp
      · rw [if_neg h2, if_neg (by omega)]
        simp
    · rw [if_neg h1, zero_mul, zero_mul, if_neg (by omega)]
variable (m : (ℓ : Loc nD τ sig) → Buf (Elt Ideal) ℓ)
open Cert.ReferenceIdeal (S1x21 S1048576x1 S1048576x21 S21x1048576) in
open Cert.ReferenceIdeal.Facts₀ Cert.ReferenceIdeal.Facts in
/-- The reference's composed term is the kernel's result. -/
theorem result_eq (d : Dev nD) (hr : InRange (F := Ideal) (yOf m d) (pOf m d)) :
  (addf (m (locT d main_arg2)) (Host.dotGeneral Cert.ReferenceIdeal.dot_S21x1048576_S1048576x21_S21x21_1_0_0_1_n_n none
   (transpose S21x1048576 [1, 0] (mulf (uitofp .f32 (cmpi .eq (broadcastInDim S1048576x21 ![0, 1] bcast_S1048576x1_S1048576x21_0_1 (broadcastInDim S1048576x1 ![0] bcast_S1048576_S1048576x1_0 (yOf m d))) (broadcastInDim S1048576x21 ![0, 1] bcast_S1x21_S1048576x21_0_1 (iotaInDim S1x21 32 1)))) (broadcastInDim S1048576x21 ![0, 1] bcast_S1048576x1_S1048576x21_0_1 (broadcastInDim S1048576x1 ![0] bcast_S1048576_S1048576x1_0 (uitofp .f32 (cmpi .ne (yOf m d) (broadcastInDim Cert.ReferenceIdeal.S1048576 ![] bcast_S_S1048576 (constantI Cert.ReferenceIdeal.S_ 32 0#32))))))) transposes_S1048576x21_S21x1048576_1_0)
   (uitofp .f32 (cmpi .eq (broadcastInDim S1048576x21 ![0, 1] bcast_S1048576x1_S1048576x21_0_1 (broadcastInDim S1048576x1 ![0] bcast_S1048576_S1048576x1_0 (pOf m d))) (broadcastInDim S1048576x21 ![0, 1] bcast_S1x21_S1048576x21_0_1 (iotaInDim S1x21 32 1))))) : FVec Ideal S21x21 .f32)
   = resOf m d := by
  have hv : ∀ w r c : Fin 32, (v3Of m d (ix3 w r c) : EReal)
      = ∑ k ∈ Finset.range 32768, one (32 * r.val + c.val) (bin (yOf m d) (pOf m d) (32768 * w.val + k)) := by
    intro w r c
    refine (partsCast_apply _ w r c).trans ((parts_count hr _ _ _).trans ?_)
    refine Finset.sum_congr rfl fun k _ => ?_
    show one (16 * ((32 * r.val + c.val) / 16) + (32 * r.val + c.val) % 16) _ = _
    rw [Nat.div_add_mod]
  have hp : ∀ x : Fin 1048576, px x.val = ix1 x := fun x => by
    funext q
    match q with | 0 => exact Fin.ext (Nat.mod_eq_of_lt x.isLt)
  funext j
  rw [eq_ix2 j]
  generalize j 0 = r
  generalize j 1 = c
  change Fin 21 at r
  change Fin 21 at c
  have hr0 := r.isLt
  have hc0 := c.isLt
  refine Eq.trans ?_ (combine_apply (v3Of m d) (m (locT d main_arg2)) r c).symm
  refine (add_comm (G := EReal) _ _).trans ?_
  refine congrArg (fun z : EReal => z + m (locT d main_arg2) (ix2 r c)) ?_
  refine (dot_apply _ _ r c).trans ?_
  have ht : ∀ x : Fin 1048576, x ∈ Finset.univ → _ = _ := fun x _ =>
    (congrArg₂ (fun a b : EReal => a * b) (oneHot_masked_apply (yOf m d) x r) (oneHot_apply (pOf m d) x c)).trans
      (term_eq _ _ (hr (ix1 x)).1 (hr (ix1 x)).2 r c)
  refine (Finset.sum_congr rfl ht).trans ?_
  by_cases h0 : r.val = 0
  · simp only [if_pos h0, Finset.sum_const_zero]
  · simp only [if_neg h0]
    have hs : ∑ w : Fin 32, (v3Of m d (ix3 w ⟨r.val, by omega⟩ ⟨c.val, by omega⟩) : EReal)
        = ∑ w : Fin 32, ∑ k ∈ Finset.range 32768, one (32 * r.val + c.val) (bin (yOf m d) (pOf m d) (32768 * w.val + k)) :=
      Finset.sum_congr rfl fun w _ => hv w _ _
    refine Eq.trans ?_ hs.symm
    refine Eq.trans ?_ (count_all (fun k => one (32 * r.val + c.val) (bin (yOf m d) (pOf m d) k)))
    refine Finset.sum_congr rfl fun x _ => ?_
    unfold bin
    rw [hp]

end Cert.Proof.KernelIdeal

end
-- ==== Proof.lean ====
/-
  The proof of `Cert.Claim`: the frames of the kernel, of its idealization and of the reference, from their runs; the
  idealization rewrites nothing; and the idealized kernel's result is the reference's, by `Cert.Proof.KernelIdeal.result_eq`.
-/
module

public import proofs.«01_k».proof.Defs
public import proofs.«01_k».proof.Proof.Bits.Range
public import proofs.«01_k».proof.Proof.Value
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel runs and leaves its arguments as they were, with every counter at zero. -/
theorem frame_p : Cert.quiescent_Kernel (hKernel := Cert.Kernel.Gen.facts) (hPre_labels_in_range := Cert.Pre_labels_in_range.Gen.facts) :=
  fun m ρ h => (θ_run Cert.Kernel.defs _ _).mono (fun _ q => ⟨fun c => ⟨(q.1 c).1, (q.1 c).2.1, (q.1 c).2.2.1⟩, q.2⟩)
    (Cert.Proof.Kernel.run_pre (F := Bits) m ρ h)

/-- So does its idealization. -/
theorem frame_pi : Cert.quiescent_KernelIdeal (hKernelIdeal := Cert.KernelIdeal.Gen.facts) (hPre_labels_in_range := Cert.Pre_labels_in_range.Gen.facts) :=
  fun m ρ h => (θ_run Cert.KernelIdeal.defs _ _).mono (fun _ q => ⟨fun c => ⟨(q.1 c).1, (q.1 c).2.1, (q.1 c).2.2.1⟩, q.2⟩)
    (Cert.Proof.KernelIdeal.run_pre (F := Ideal) m ρ h)

/-- The reference runs and leaves its arguments as they were; it has no counters. -/
theorem frame_ri : Cert.quiescent_ReferenceIdeal (hReferenceIdeal := Cert.ReferenceIdeal.Gen.facts) :=
  fun m ρ _ => (θ_run Cert.ReferenceIdeal.defs _ _).mono (fun r q => ⟨fun c => (q c).2, sem_eq_zero_of_no_sems (by decide) r.2⟩)
    (Cert.ReferenceIdeal.Value.run (F := Ideal) m ρ)

/-- The idealized kernel and the reference, from the same arguments, end with the same matrix. -/
theorem alg : Cert.algebraic_KernelIdeal_ReferenceIdeal (hKernelIdeal := Cert.KernelIdeal.Gen.facts) (hReferenceIdeal := Cert.ReferenceIdeal.Gen.facts)
    (hPre_labels_in_range := Cert.Pre_labels_in_range.Gen.facts) := by
  intro m ρ m' ρ' h hag
  refine ⟨fun c => Cert.Proof.KernelIdeal.resOf m c, (θ_run Cert.KernelIdeal.defs _ _).mono
    (fun _ q c => ⟨(q.1 c).2.2.2, (q.1 c).1, (q.1 c).2.1, (q.1 c).2.2.1⟩) (Cert.Proof.KernelIdeal.run_pre (F := Ideal) m ρ h), ?_⟩
  refine (θ_run Cert.ReferenceIdeal.defs _ _).mono (fun _ q c => ⟨(q c).1.trans ?_, (q c).2⟩) (Cert.ReferenceIdeal.Value.run (F := Ideal) m' ρ')
  obtain ⟨e0, e1, e2⟩ := hag c
  rw [e0, e1, e2]
  exact Cert.Proof.KernelIdeal.result_eq m c (Cert.Proof.KernelIdeal.inRange_of_pre m h c)

theorem claim : Cert.Claim := ⟨Cert.Kernel.Gen.facts, Cert.KernelIdeal.Gen.facts, Cert.ReferenceIdeal.Gen.facts, Cert.Pre_labels_in_range.Gen.facts,
  frame_p, frame_pi, frame_ri, fun m ρ _ => frame_ri m ρ trivial, trivial, alg⟩

end Cert.Proof

end
